-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Experts [hPre_used_experts : Cert.Pre_used_experts.Facts] (m : (ℓ : Loc Cert.Experts.nD Cert.Experts.τ Cert.Experts.sig) → Buf (Elt Bits) ℓ) : Prop :=
  ∀ c : Dev Cert.Experts.nD,
    (Cert.Pre_used_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_used_experts : Cert.Pre_used_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_used_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal [hPre_used_experts : Cert.Pre_used_experts.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_used_experts.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_rows [hPre_finite_rows : Cert.Pre_finite_rows.Facts] (m : (ℓ : Loc Cert.RouteIdeal.nD Cert.RouteIdeal.τ Cert.RouteIdeal.sig) → Buf (Elt Ideal) ℓ) : Prop :=
  ∀ c : Dev Cert.RouteIdeal.nD,
    (Cert.Pre_finite_rows.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_rows [hPre_finite_rows : Cert.Pre_finite_rows.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_rows.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1))) = (fun _ => 1#1)

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInRefIdeal (m : (ℓ : Loc Cert.LnInRefIdeal.nD Cert.LnInRefIdeal.τ Cert.LnInRefIdeal.sig) → Buf (Elt Ideal) ℓ) : Prop :=
  True

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4)
      ∧ r.2.mem ((c.tc : Thread Cert.Mixout.nD Cert.Mixout.τ).loc Cert.Mixout.main_arg5) = m ((c.tc : Thread Cert.Mixout.nD Cert.Mixout.τ).loc Cert.Mixout.main_arg5)
      ∧ r.2.mem ((c.tc : Thread Cert.Mixout.nD Cert.Mixout.τ).loc Cert.Mixout.main_arg6) = m ((c.tc : Thread Cert.Mixout.nD Cert.Mixout.τ).loc Cert.Mixout.main_arg6)
      ∧ r.2.mem ((c.tc : Thread Cert.Mixout.nD Cert.Mixout.τ).loc Cert.Mixout.main_arg7) = m ((c.tc : Thread Cert.Mixout.nD Cert.Mixout.τ).loc Cert.Mixout.main_arg7)
      ∧ r.2.mem ((c.tc : Thread Cert.Mixout.nD Cert.Mixout.τ).loc Cert.Mixout.main_arg8) = m ((c.tc : Thread Cert.Mixout.nD Cert.Mixout.τ).loc Cert.Mixout.main_arg8)
      ∧ r.2.mem ((c.tc : Thread Cert.Mixout.nD Cert.Mixout.τ).loc Cert.Mixout.main_arg9) = m ((c.tc : Thread Cert.Mixout.nD Cert.Mixout.τ).loc Cert.Mixout.main_arg9))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
      ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
      ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
      ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8)
      ∧ r.2.mem ((c.tc : Thread Cert.MixoutIdeal.nD Cert.MixoutIdeal.τ).loc Cert.MixoutIdeal.main_arg9) = m ((c.tc : Thread Cert.MixoutIdeal.nD Cert.MixoutIdeal.τ).loc Cert.MixoutIdeal.main_arg9))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5)
      ∧ r.2.mem ((c.tc : Thread Cert.MixoutRefIdeal.nD Cert.MixoutRefIdeal.τ).loc Cert.MixoutRefIdeal.main_arg6) = m ((c.tc : Thread Cert.MixoutRefIdeal.nD Cert.MixoutRefIdeal.τ).loc Cert.MixoutRefIdeal.main_arg6)
      ∧ r.2.mem ((c.tc : Thread Cert.MixoutRefIdeal.nD Cert.MixoutRefIdeal.τ).loc Cert.MixoutRefIdeal.main_arg7) = m ((c.tc : Thread Cert.MixoutRefIdeal.nD Cert.MixoutRefIdeal.τ).loc Cert.MixoutRefIdeal.main_arg7)
      ∧ r.2.mem ((c.tc : Thread Cert.MixoutRefIdeal.nD Cert.MixoutRefIdeal.τ).loc Cert.MixoutRefIdeal.main_arg8) = m ((c.tc : Thread Cert.MixoutRefIdeal.nD Cert.MixoutRefIdeal.τ).loc Cert.MixoutRefIdeal.main_arg8)
      ∧ r.2.mem ((c.tc : Thread Cert.MixoutRefIdeal.nD Cert.MixoutRefIdeal.τ).loc Cert.MixoutRefIdeal.main_arg9) = m ((c.tc : Thread Cert.MixoutRefIdeal.nD Cert.MixoutRefIdeal.τ).loc Cert.MixoutRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Experts [hExperts : Cert.Experts.Facts] [hPre_used_experts : Cert.Pre_used_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_used_experts : Cert.Pre_used_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] [hPre_used_experts : Cert.Pre_used_experts.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteIdeal_pre_finite_rows [hRouteIdeal : Cert.RouteIdeal.Facts] [hPre_finite_rows : Cert.Pre_finite_rows.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_rows m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1))
      ∧ r.2.sem = fun _ => 0)

def quiescent_RouteRefIdeal_pre_finite_rows [hRouteRefIdeal : Cert.RouteRefIdeal.Facts] [hPre_finite_rows : Cert.Pre_finite_rows.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_rows m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_LnInRefIdeal [hLnInRefIdeal : Cert.LnInRefIdeal.Facts] : Prop :=
  ∀ (m : (ℓ : Loc Cert.LnInRefIdeal.nD Cert.LnInRefIdeal.τ Cert.LnInRefIdeal.sig) → Buf (Elt Ideal) ℓ) (g : Dev Cert.LnInRefIdeal.nD → PrngReg), Pre_LnInRefIdeal m →
    θ_run (Cert.LnInRefIdeal.defs (F := Ideal)) (onTc (τ := Cert.LnInRefIdeal.τ) (Cert.LnInRefIdeal.main (F := Ideal))) ⟨m, fun _ => 0, g⟩ (fun r => (∀ c : Dev Cert.LnInRefIdeal.nD,
      r.2.mem ((c.tc : Thread Cert.LnInRefIdeal.nD Cert.LnInRefIdeal.τ).loc Cert.LnInRefIdeal.main_arg0) = m ((c.tc : Thread Cert.LnInRefIdeal.nD Cert.LnInRefIdeal.τ).loc Cert.LnInRefIdeal.main_arg0)
      ∧ r.2.mem ((c.tc : Thread Cert.LnInRefIdeal.nD Cert.LnInRefIdeal.τ).loc Cert.LnInRefIdeal.main_arg1) = m ((c.tc : Thread Cert.LnInRefIdeal.nD Cert.LnInRefIdeal.τ).loc Cert.LnInRefIdeal.main_arg1)
      ∧ r.2.mem ((c.tc : Thread Cert.LnInRefIdeal.nD Cert.LnInRefIdeal.τ).loc Cert.LnInRefIdeal.main_arg2) = m ((c.tc : Thread Cert.LnInRefIdeal.nD Cert.LnInRefIdeal.τ).loc Cert.LnInRefIdeal.main_arg2))
      ∧ r.2.sem = fun _ => 0)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)) (v2 : (c : Dev Cert.InprojIdeal.nD) → Buf (Elt Ideal) ((c.tc : Thread Cert.InprojIdeal.nD Cert.InprojIdeal.τ).loc Cert.InprojIdeal.main_v2_2)) (v3 : (c : Dev Cert.InprojIdeal.nD) → Buf (Elt Ideal) ((c.tc : Thread Cert.InprojIdeal.nD Cert.InprojIdeal.τ).loc Cert.InprojIdeal.main_v2_3)) (v4 : (c : Dev Cert.InprojIdeal.nD) → Buf (Elt Ideal) ((c.tc : Thread Cert.InprojIdeal.nD Cert.InprojIdeal.τ).loc Cert.InprojIdeal.main_v2_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_v2_2) = v2 c
          ∧ r.2.mem ((c.tc : Thread Cert.InprojIdeal.nD Cert.InprojIdeal.τ).loc Cert.InprojIdeal.main_v2_3) = v3 c
          ∧ r.2.mem ((c.tc : Thread Cert.InprojIdeal.nD Cert.InprojIdeal.τ).loc Cert.InprojIdeal.main_v2_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v66) = v0 c
          ∧ r.2.mem ((c.tc : Thread Cert.InprojRefIdeal.nD Cert.InprojRefIdeal.τ).loc Cert.InprojRefIdeal.main_v67) = v1 c
          ∧ r.2.mem ((c.tc : Thread Cert.InprojRefIdeal.nD Cert.InprojRefIdeal.τ).loc Cert.InprojRefIdeal.main_v68) = v2 c
          ∧ r.2.mem ((c.tc : Thread Cert.InprojRefIdeal.nD Cert.InprojRefIdeal.τ).loc Cert.InprojRefIdeal.main_v69) = v3 c
          ∧ r.2.mem ((c.tc : Thread Cert.InprojRefIdeal.nD Cert.InprojRefIdeal.τ).loc Cert.InprojRefIdeal.main_v70) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Mixout_MixoutIdeal : Prop :=
  IdealRules.named_const.Statement Cert.MixoutIdeal.κ "alpha" .f32 0x3FB504F3#32 ((Real.sqrt 2 : ℝ) : EReal)
  ∧ IdealRules.named_const.Statement Cert.MixoutIdeal.κ "ln_eps" .f32 0x3727C5AC#32 ((1 / 100000 : ℝ) : EReal)

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)
      ∧ m' ((c.tc : Thread Cert.MixoutRefIdeal.nD Cert.MixoutRefIdeal.τ).loc Cert.MixoutRefIdeal.main_arg4) = m ((c.tc : Thread Cert.MixoutIdeal.nD Cert.MixoutIdeal.τ).loc Cert.MixoutIdeal.main_arg4)
      ∧ m' ((c.tc : Thread Cert.MixoutRefIdeal.nD Cert.MixoutRefIdeal.τ).loc Cert.MixoutRefIdeal.main_arg5) = m ((c.tc : Thread Cert.MixoutIdeal.nD Cert.MixoutIdeal.τ).loc Cert.MixoutIdeal.main_arg5)
      ∧ m' ((c.tc : Thread Cert.MixoutRefIdeal.nD Cert.MixoutRefIdeal.τ).loc Cert.MixoutRefIdeal.main_arg6) = m ((c.tc : Thread Cert.MixoutIdeal.nD Cert.MixoutIdeal.τ).loc Cert.MixoutIdeal.main_arg6)
      ∧ m' ((c.tc : Thread Cert.MixoutRefIdeal.nD Cert.MixoutRefIdeal.τ).loc Cert.MixoutRefIdeal.main_arg7) = m ((c.tc : Thread Cert.MixoutIdeal.nD Cert.MixoutIdeal.τ).loc Cert.MixoutIdeal.main_arg7)
      ∧ m' ((c.tc : Thread Cert.MixoutRefIdeal.nD Cert.MixoutRefIdeal.τ).loc Cert.MixoutRefIdeal.main_arg8) = m ((c.tc : Thread Cert.MixoutIdeal.nD Cert.MixoutIdeal.τ).loc Cert.MixoutIdeal.main_arg8)
      ∧ m' ((c.tc : Thread Cert.MixoutRefIdeal.nD Cert.MixoutRefIdeal.τ).loc Cert.MixoutRefIdeal.main_arg9) = m ((c.tc : Thread Cert.MixoutIdeal.nD Cert.MixoutIdeal.τ).loc Cert.MixoutIdeal.main_arg9)) →
    ∃ (v0 : (c : Dev Cert.MixoutIdeal.nD) → Buf (Elt Ideal) ((c.tc : Thread Cert.MixoutIdeal.nD Cert.MixoutIdeal.τ).loc Cert.MixoutIdeal.main_v5_0)) (v1 : (c : Dev Cert.MixoutIdeal.nD) → Buf (Elt Ideal) ((c.tc : Thread Cert.MixoutIdeal.nD Cert.MixoutIdeal.τ).loc Cert.MixoutIdeal.main_v5_1)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v5_0) = v0 c
          ∧ r.2.mem ((c.tc : Thread Cert.MixoutIdeal.nD Cert.MixoutIdeal.τ).loc Cert.MixoutIdeal.main_v5_1) = v1 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
          ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
          ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
          ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
          ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8)
          ∧ r.2.mem ((c.tc : Thread Cert.MixoutIdeal.nD Cert.MixoutIdeal.τ).loc Cert.MixoutIdeal.main_arg9) = m ((c.tc : Thread Cert.MixoutIdeal.nD Cert.MixoutIdeal.τ).loc Cert.MixoutIdeal.main_arg9))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v39) = v0 c
          ∧ r.2.mem ((c.tc : Thread Cert.MixoutRefIdeal.nD Cert.MixoutRefIdeal.τ).loc Cert.MixoutRefIdeal.main_v40) = v1 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3)
          ∧ r.2.mem ((c.tc : Thread Cert.MixoutRefIdeal.nD Cert.MixoutRefIdeal.τ).loc Cert.MixoutRefIdeal.main_arg4) = m' ((c.tc : Thread Cert.MixoutRefIdeal.nD Cert.MixoutRefIdeal.τ).loc Cert.MixoutRefIdeal.main_arg4)
          ∧ r.2.mem ((c.tc : Thread Cert.MixoutRefIdeal.nD Cert.MixoutRefIdeal.τ).loc Cert.MixoutRefIdeal.main_arg5) = m' ((c.tc : Thread Cert.MixoutRefIdeal.nD Cert.MixoutRefIdeal.τ).loc Cert.MixoutRefIdeal.main_arg5)
          ∧ r.2.mem ((c.tc : Thread Cert.MixoutRefIdeal.nD Cert.MixoutRefIdeal.τ).loc Cert.MixoutRefIdeal.main_arg6) = m' ((c.tc : Thread Cert.MixoutRefIdeal.nD Cert.MixoutRefIdeal.τ).loc Cert.MixoutRefIdeal.main_arg6)
          ∧ r.2.mem ((c.tc : Thread Cert.MixoutRefIdeal.nD Cert.MixoutRefIdeal.τ).loc Cert.MixoutRefIdeal.main_arg7) = m' ((c.tc : Thread Cert.MixoutRefIdeal.nD Cert.MixoutRefIdeal.τ).loc Cert.MixoutRefIdeal.main_arg7)
          ∧ r.2.mem ((c.tc : Thread Cert.MixoutRefIdeal.nD Cert.MixoutRefIdeal.τ).loc Cert.MixoutRefIdeal.main_arg8) = m' ((c.tc : Thread Cert.MixoutRefIdeal.nD Cert.MixoutRefIdeal.τ).loc Cert.MixoutRefIdeal.main_arg8)
          ∧ r.2.mem ((c.tc : Thread Cert.MixoutRefIdeal.nD Cert.MixoutRefIdeal.τ).loc Cert.MixoutRefIdeal.main_arg9) = m' ((c.tc : Thread Cert.MixoutRefIdeal.nD Cert.MixoutRefIdeal.τ).loc Cert.MixoutRefIdeal.main_arg9))

def preserves_Ffn_FfnIdeal : Prop :=
  IdealRules.named_const.Statement Cert.FfnIdeal.κ "alpha" .f32 0x3FB504F3#32 ((Real.sqrt 2 : ℝ) : EReal)
  ∧ IdealRules.named_const.Statement Cert.FfnIdeal.κ "ln_eps" .f32 0x3727C5AC#32 ((1 / 100000 : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_v35) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] [hPre_used_experts : Cert.Pre_used_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v126) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Route_RouteIdeal : Prop :=
  True

def algebraic_RouteIdeal_RouteRefIdeal_pre_finite_rows [hRouteIdeal : Cert.RouteIdeal.Facts] [hRouteRefIdeal : Cert.RouteRefIdeal.Facts] [hPre_finite_rows : Cert.Pre_finite_rows.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite_rows m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)) →
    ∃ (v0 : (c : Dev Cert.RouteIdeal.nD) → Buf (Elt Ideal) ((c.tc : Thread Cert.RouteIdeal.nD Cert.RouteIdeal.τ).loc Cert.RouteIdeal.main_v1_0)) (v1 : (c : Dev Cert.RouteIdeal.nD) → Buf (Elt Ideal) ((c.tc : Thread Cert.RouteIdeal.nD Cert.RouteIdeal.τ).loc Cert.RouteIdeal.main_v1_1)) (v2 : (c : Dev Cert.RouteIdeal.nD) → Buf (Elt Ideal) ((c.tc : Thread Cert.RouteIdeal.nD Cert.RouteIdeal.τ).loc Cert.RouteIdeal.main_v1_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v1_0) = v0 c
          ∧ r.2.mem ((c.tc : Thread Cert.RouteIdeal.nD Cert.RouteIdeal.τ).loc Cert.RouteIdeal.main_v1_1) = v1 c
          ∧ r.2.mem ((c.tc : Thread Cert.RouteIdeal.nD Cert.RouteIdeal.τ).loc Cert.RouteIdeal.main_v1_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v30) = v0 c
          ∧ r.2.mem ((c.tc : Thread Cert.RouteRefIdeal.nD Cert.RouteRefIdeal.τ).loc Cert.RouteRefIdeal.main_v34) = v1 c
          ∧ r.2.mem ((c.tc : Thread Cert.RouteRefIdeal.nD Cert.RouteRefIdeal.τ).loc Cert.RouteRefIdeal.main_v35) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1))

def preserves_LnIn_LnInIdeal : Prop :=
  IdealRules.named_const.Statement Cert.LnInIdeal.κ "ln_eps" .f32 0x3727C5AC#32 ((1 / 100000 : ℝ) : EReal)

def algebraic_LnInIdeal_LnInRefIdeal [hLnInIdeal : Cert.LnInIdeal.Facts] [hLnInRefIdeal : Cert.LnInRefIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInRefIdeal.nD Cert.LnInRefIdeal.τ Cert.LnInRefIdeal.sig) → Buf (Elt Ideal) ℓ) (g' : Dev Cert.LnInRefIdeal.nD → PrngReg), Pre_LnInIdeal m →
    (∀ c : Dev Cert.LnInIdeal.nD,
      m' ((c.tc : Thread Cert.LnInRefIdeal.nD Cert.LnInRefIdeal.τ).loc Cert.LnInRefIdeal.main_arg0) = m ((c.tc : Thread Cert.LnInIdeal.nD Cert.LnInIdeal.τ).loc Cert.LnInIdeal.main_arg0)
      ∧ m' ((c.tc : Thread Cert.LnInRefIdeal.nD Cert.LnInRefIdeal.τ).loc Cert.LnInRefIdeal.main_arg1) = m ((c.tc : Thread Cert.LnInIdeal.nD Cert.LnInIdeal.τ).loc Cert.LnInIdeal.main_arg1)
      ∧ m' ((c.tc : Thread Cert.LnInRefIdeal.nD Cert.LnInRefIdeal.τ).loc Cert.LnInRefIdeal.main_arg2) = m ((c.tc : Thread Cert.LnInIdeal.nD Cert.LnInIdeal.τ).loc Cert.LnInIdeal.main_arg2)) →
    ∃ (v0 : (c : Dev Cert.LnInIdeal.nD) → Buf (Elt Ideal) ((c.tc : Thread Cert.LnInIdeal.nD Cert.LnInIdeal.τ).loc Cert.LnInIdeal.main_v2_0)) (v1 : (c : Dev Cert.LnInIdeal.nD) → Buf (Elt Ideal) ((c.tc : Thread Cert.LnInIdeal.nD Cert.LnInIdeal.τ).loc Cert.LnInIdeal.main_v2_1)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v2_0) = v0 c
          ∧ r.2.mem ((c.tc : Thread Cert.LnInIdeal.nD Cert.LnInIdeal.τ).loc Cert.LnInIdeal.main_v2_1) = v1 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ θ_run (Cert.LnInRefIdeal.defs (F := Ideal)) (onTc (τ := Cert.LnInRefIdeal.τ) (Cert.LnInRefIdeal.main (F := Ideal))) ⟨m', fun _ => 0, g'⟩ (fun r => ∀ c : Dev Cert.LnInRefIdeal.nD,
          r.2.mem ((c.tc : Thread Cert.LnInRefIdeal.nD Cert.LnInRefIdeal.τ).loc Cert.LnInRefIdeal.main_v24) = v0 c
          ∧ r.2.mem ((c.tc : Thread Cert.LnInRefIdeal.nD Cert.LnInRefIdeal.τ).loc Cert.LnInRefIdeal.main_v25) = v1 c
          ∧ r.2.mem ((c.tc : Thread Cert.LnInRefIdeal.nD Cert.LnInRefIdeal.τ).loc Cert.LnInRefIdeal.main_arg0) = m' ((c.tc : Thread Cert.LnInRefIdeal.nD Cert.LnInRefIdeal.τ).loc Cert.LnInRefIdeal.main_arg0)
          ∧ r.2.mem ((c.tc : Thread Cert.LnInRefIdeal.nD Cert.LnInRefIdeal.τ).loc Cert.LnInRefIdeal.main_arg1) = m' ((c.tc : Thread Cert.LnInRefIdeal.nD Cert.LnInRefIdeal.τ).loc Cert.LnInRefIdeal.main_arg1)
          ∧ r.2.mem ((c.tc : Thread Cert.LnInRefIdeal.nD Cert.LnInRefIdeal.τ).loc Cert.LnInRefIdeal.main_arg2) = m' ((c.tc : Thread Cert.LnInRefIdeal.nD Cert.LnInRefIdeal.τ).loc Cert.LnInRefIdeal.main_arg2))

def Claim : Prop :=
  ∃ (hInproj : Cert.Inproj.Facts) (hInprojIdeal : Cert.InprojIdeal.Facts) (hInprojRefIdeal : Cert.InprojRefIdeal.Facts) (hMixout : Cert.Mixout.Facts) (hMixoutIdeal : Cert.MixoutIdeal.Facts) (hMixoutRefIdeal : Cert.MixoutRefIdeal.Facts) (hFfn : Cert.Ffn.Facts) (hFfnIdeal : Cert.FfnIdeal.Facts) (hFfnRefIdeal : Cert.FfnRefIdeal.Facts) (hExperts : Cert.Experts.Facts) (hExpertsIdeal : Cert.ExpertsIdeal.Facts) (hExpertsRefIdeal : Cert.ExpertsRefIdeal.Facts) (hRoute : Cert.Route.Facts) (hRouteIdeal : Cert.RouteIdeal.Facts) (hRouteRefIdeal : Cert.RouteRefIdeal.Facts) (hLnIn : Cert.LnIn.Facts) (hLnInIdeal : Cert.LnInIdeal.Facts) (hLnInRefIdeal : Cert.LnInRefIdeal.Facts) (hPre_used_experts : Cert.Pre_used_experts.Facts) (hPre_finite_rows : Cert.Pre_finite_rows.Facts),
    quiescent_Inproj (hInproj := hInproj)
    ∧ quiescent_InprojIdeal (hInprojIdeal := hInprojIdeal)
    ∧ quiescent_InprojRefIdeal (hInprojRefIdeal := hInprojRefIdeal)
    ∧ quiescent_Mixout (hMixout := hMixout)
    ∧ quiescent_MixoutIdeal (hMixoutIdeal := hMixoutIdeal)
    ∧ quiescent_MixoutRefIdeal (hMixoutRefIdeal := hMixoutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Experts (hExperts := hExperts) (hPre_used_experts := hPre_used_experts)
    ∧ quiescent_ExpertsIdeal (hExpertsIdeal := hExpertsIdeal) (hPre_used_experts := hPre_used_experts)
    ∧ quiescent_ExpertsRefIdeal (hExpertsRefIdeal := hExpertsRefIdeal) (hPre_used_experts := hPre_used_experts)
    ∧ quiescent_Route (hRoute := hRoute)
    ∧ quiescent_RouteIdeal (hRouteIdeal := hRouteIdeal)
    ∧ quiescent_RouteIdeal_pre_finite_rows (hRouteIdeal := hRouteIdeal) (hPre_finite_rows := hPre_finite_rows)
    ∧ quiescent_RouteRefIdeal (hRouteRefIdeal := hRouteRefIdeal)
    ∧ quiescent_RouteRefIdeal_pre_finite_rows (hRouteRefIdeal := hRouteRefIdeal) (hPre_finite_rows := hPre_finite_rows)
    ∧ quiescent_LnIn (hLnIn := hLnIn)
    ∧ quiescent_LnInIdeal (hLnInIdeal := hLnInIdeal)
    ∧ quiescent_LnInRefIdeal (hLnInRefIdeal := hLnInRefIdeal)
    ∧ preserves_Inproj_InprojIdeal
    ∧ algebraic_InprojIdeal_InprojRefIdeal (hInprojIdeal := hInprojIdeal) (hInprojRefIdeal := hInprojRefIdeal)
    ∧ preserves_Mixout_MixoutIdeal
    ∧ algebraic_MixoutIdeal_MixoutRefIdeal (hMixoutIdeal := hMixoutIdeal) (hMixoutRefIdeal := hMixoutRefIdeal)
    ∧ preserves_Ffn_FfnIdeal
    ∧ algebraic_FfnIdeal_FfnRefIdeal (hFfnIdeal := hFfnIdeal) (hFfnRefIdeal := hFfnRefIdeal)
    ∧ preserves_Experts_ExpertsIdeal
    ∧ algebraic_ExpertsIdeal_ExpertsRefIdeal (hExpertsIdeal := hExpertsIdeal) (hExpertsRefIdeal := hExpertsRefIdeal) (hPre_used_experts := hPre_used_experts)
    ∧ preserves_Route_RouteIdeal
    ∧ algebraic_RouteIdeal_RouteRefIdeal_pre_finite_rows (hRouteIdeal := hRouteIdeal) (hRouteRefIdeal := hRouteRefIdeal) (hPre_finite_rows := hPre_finite_rows)
    ∧ preserves_LnIn_LnInIdeal
    ∧ algebraic_LnInIdeal_LnInRefIdeal (hLnInIdeal := hLnInIdeal) (hLnInRefIdeal := hLnInRefIdeal)
-- ==== Pre_finite_rows.lean ====
abbrev S65536x1024 : Shape := ⟨2, ![65536, 1024]⟩
abbrev S1024x8 : Shape := ⟨2, ![1024, 8]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S65536x1024 .f32) (main_arg1 : FVec F S1024x8 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Pre_used_experts.lean ====
abbrev S139264x1024 : Shape := ⟨2, ![139264, 1024]⟩
abbrev S136 : Shape := ⟨1, ![136]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : FVec F S139264x1024 .f32) (main_arg1 : IVec S136 32) (main_arg2 : FVec F S8x1024x3584 .bf16) (main_arg3 : FVec F S8x1024x3584 .bf16) (main_arg4 : FVec F S8x3584x1024 .bf16) : IVec S136 1 :=
  let main_c : IVec S_ 32 := constantI S_ 32 0#32
  let main_v0 : IVec S136 32 := broadcastInDim S136 ![] bcast_S_S136 main_c
  let main_v1 : IVec S136 1 := cmpi .sge main_arg1 main_v0
  main_v1
-- ==== Inproj.lean ====
abbrev S16x4096x1024 : Shape := ⟨3, ![16, 4096, 1024]⟩
abbrev S1024x8192 : Shape := ⟨2, ![1024, 8192]⟩
abbrev S3x1024 : Shape := ⟨2, ![3, 1024]⟩
abbrev S3x3072 : Shape := ⟨2, ![3, 3072]⟩
abbrev S3072 : Shape := ⟨1, ![3072]⟩
abbrev S1x3072 : Shape := ⟨2, ![1, 3072]⟩
abbrev S1x4096x1024 : Shape := ⟨3, ![1, 4096, 1024]⟩
abbrev S1024x256 : Shape := ⟨2, ![1024, 256]⟩
abbrev S3x256 : Shape := ⟨2, ![3, 256]⟩
abbrev S1x256 : Shape := ⟨2, ![1, 256]⟩
abbrev S1x4096x256 : Shape := ⟨3, ![1, 4096, 256]⟩
abbrev S1x544x1024 : Shape := ⟨3, ![1, 544, 1024]⟩
abbrev S544x1024 : Shape := ⟨2, ![544, 1024]⟩
abbrev S1x512x1024 : Shape := ⟨3, ![1, 512, 1024]⟩
abbrev S512x1024 : Shape := ⟨2, ![512, 1024]⟩
abbrev S512x1 : Shape := ⟨2, ![512, 1]⟩
abbrev S544x256 : Shape := ⟨2, ![544, 256]⟩
abbrev S512x256 : Shape := ⟨2, ![512, 256]⟩
abbrev S1x512x256 : Shape := ⟨3, ![1, 512, 256]⟩

abbrev nBuf : Space → Nat
  | .hbm => 12
  | .vmem => 42
  | .smem => 0
  | _ => 0

abbrev bufTy : (tb : Table) → Fin (tcTables nBuf tb) → BufTy
  | .hbm, ⟨0, _⟩ => ⟨S16x4096x1024, .bf16⟩
  | .hbm, ⟨1, _⟩ => ⟨S1024x8192, .f32⟩
  | .hbm, ⟨2, _⟩ => ⟨S3x1024, .f32⟩
  | .hbm, ⟨3, _⟩ => ⟨S3x3072, .f32⟩
  | .hbm, ⟨4, _⟩ => ⟨S3072, .f32⟩
  | .hbm, ⟨5, _⟩ => ⟨S1024x8192, .bf16⟩
  | .hbm, ⟨6, _⟩ => ⟨S1x3072, .f32⟩
  | .hbm, ⟨7, _⟩ => ⟨S16x4096x1024, .bf16⟩
  | .hbm, ⟨8, _⟩ => ⟨S16x4096x1024, .bf16⟩
  | .hbm, ⟨9, _⟩ => ⟨S16x4096x1024, .bf16⟩
  | .hbm, ⟨10, _⟩ => ⟨S16x4096x1024, .bf16⟩
  | .hbm, ⟨11, _⟩ => ⟨S16x4096x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S3x256, .f32⟩
  | .local _ .vmem, ⟨23, _⟩ => ⟨S3x256, .f32⟩
  | .local _ .vmem, ⟨24, _⟩ => ⟨S3x256, .f32⟩
  | .local _ .vmem, ⟨25, _⟩ => ⟨S3x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x4096x256, .bf16⟩
  | .local _ .vmem, ⟨33, _⟩ => ⟨S1x4096x256, .bf16⟩
  | .local _ .vmem, ⟨34, _⟩ => ⟨S1x4096x256, .bf16⟩
  | .local _ .vmem, ⟨35, _⟩ => ⟨S1x4096x256, .bf16⟩
  | .local _ .vmem, ⟨36, _⟩ => ⟨S1x4096x256, .bf16⟩
  | .local _ .vmem, ⟨37, _⟩ => ⟨S1x4096x256, .bf16⟩
  | .local _ .vmem, ⟨38, _⟩ => ⟨S1x4096x256, .bf16⟩
  | .local _ .vmem, ⟨39, _⟩ => ⟨S1x4096x256, .bf16⟩
  | .local _ .vmem, ⟨40, _⟩ => ⟨S1x4096x256, .bf16⟩
  | .local _ .vmem, ⟨41, _⟩ => ⟨S1x4096x256, .bf16⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S3x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x4096x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4096x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4096x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4096x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4096x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== InprojRefIdeal.lean ====
abbrev S16x4096x1024 : Shape := ⟨3, ![16, 4096, 1024]⟩
abbrev S1024x8192 : Shape := ⟨2, ![1024, 8192]⟩
abbrev S3x1024 : Shape := ⟨2, ![3, 1024]⟩
abbrev S3x3072 : Shape := ⟨2, ![3, 3072]⟩
abbrev S3072 : Shape := ⟨1, ![3072]⟩
abbrev S16x4096x8192 : Shape := ⟨3, ![16, 4096, 8192]⟩
abbrev S16x4096x3072 : Shape := ⟨3, ![16, 4096, 3072]⟩
abbrev S16x4096x2048 : Shape := ⟨3, ![16, 4096, 2048]⟩
abbrev S_ : Shape := ⟨0, ![]⟩
abbrev S16x4098x1024 : Shape := ⟨3, ![16, 4098, 1024]⟩
abbrev S1x1024 : Shape := ⟨2, ![1, 1024]⟩
abbrev S1024 : Shape := ⟨1, ![1024]⟩
abbrev S1x1x1024 : Shape := ⟨3, ![1, 1, 1024]⟩
abbrev S16x4098x3072 : Shape := ⟨3, ![16, 4098, 3072]⟩
abbrev S1x3072 : Shape := ⟨2, ![1, 3072]⟩
abbrev S1x1x3072 : Shape := ⟨3, ![1, 1, 3072]⟩

abbrev nBuf : Space → Nat
  | .hbm => 82
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S1024x8192, .f32⟩
  | .hbm, ⟨2, _⟩ => ⟨S3x1024, .f32⟩
  | .hbm, ⟨3, _⟩ => ⟨S3x3072, .f32⟩
  | .hbm, ⟨4, _⟩ => ⟨S3072, .f32⟩
  | .hbm, ⟨5, _⟩ => ⟨S16x4096x1024, .f32⟩
  | .hbm, ⟨6, _⟩ => ⟨S16x4096x8192, .f32⟩
  | .hbm, ⟨7, _⟩ => ⟨S16x4096x1024, .f32⟩
  | .hbm, ⟨8, _⟩ => ⟨S16x4096x1024, .f32⟩
  | .hbm, ⟨9, _⟩ => ⟨S16x4096x1024, .f32⟩
  | .hbm, ⟨10, _⟩ => ⟨S16x4096x3072, .f32⟩
  | .hbm, ⟨11, _⟩ => ⟨S16x4096x2048, .f32⟩
  | .hbm, ⟨12, _⟩ => ⟨S16x4096x1024, .f32⟩
  | .hbm, ⟨13, _⟩ => ⟨S_, .i32⟩
  | .hbm, ⟨14, _⟩ => ⟨S_, .f32⟩
  | .hbm, ⟨15, _⟩ => ⟨S16x4098x1024, .f32⟩
  | .hbm, ⟨16, _⟩ => ⟨S16x4096x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S_, .i32⟩
  | .hbm, ⟨38, _⟩ => ⟨S_, .f32⟩
  | .hbm, ⟨39, _⟩ => ⟨S16x4098x3072, .f32⟩
  | .hbm, ⟨40, _⟩ => ⟨S16x4096x3072, .f32⟩
  | .hbm, ⟨41, _⟩ => ⟨S1x3072, .f32⟩
  | .hbm, ⟨42, _⟩ => ⟨S3072, .f32⟩
  | .hbm, ⟨43, _⟩ => ⟨S1x1x3072, .f32⟩
  | .hbm, ⟨44, _⟩ => ⟨S16x4096x3072, .f32⟩
  | .hbm, ⟨45, _⟩ => ⟨S16x4096x3072, .f32⟩
  | .hbm, ⟨46, _⟩ => ⟨S16x4096x3072, .f32⟩
  | .hbm, ⟨47, _⟩ => ⟨S1x3072, .f32⟩
  | .hbm, ⟨48, _⟩ => ⟨S3072, .f32⟩
  | .hbm, ⟨49, _⟩ => ⟨S1x1x3072, .f32⟩
  | .hbm, ⟨50, _⟩ => ⟨S16x4096x3072, .f32⟩
  | .hbm, ⟨51, _⟩ => ⟨S16x4096x3072, .f32⟩
  | .hbm, ⟨52, _⟩ => ⟨S16x4096x3072, .f32⟩
  | .hbm, ⟨53, _⟩ => ⟨S16x4096x3072, .f32⟩
  | .hbm, ⟨54, _⟩ => ⟨S1x3072, .f32⟩
  | .hbm, ⟨55, _⟩ => ⟨S3072, .f32⟩
  | .hbm, ⟨56, _⟩ => ⟨S1x1x3072, .f32⟩
  | .hbm, ⟨57, _⟩ => ⟨S16x4096x3072, .f32⟩
  | .hbm, ⟨58, _⟩ => ⟨S16x4096x3072, .f32⟩
  | .hbm, ⟨59, _⟩ => ⟨S16x4096x3072, .f32⟩
  | .hbm, ⟨60, _⟩ => ⟨S1x1x3072, .f32⟩
  | .hbm, ⟨61, _⟩ => ⟨S16x4096x3072, .f32⟩
  | .hbm, ⟨62, _⟩ => ⟨S16x4096x3072, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S16x4096x1024, .f32⟩
  | .hbm, ⟨67, _⟩ => ⟨S16x4096x2048, .f32⟩
  | .hbm, ⟨68, _⟩ => ⟨S16x4096x2048, .f32⟩
  | .hbm, ⟨69, _⟩ => ⟨S_, .f32⟩
  | .hbm, ⟨70, _⟩ => ⟨S16x4096x2048, .f32⟩
  | .hbm, ⟨71, _⟩ => ⟨S16x4096x2048, .f32⟩
  | .hbm, ⟨72, _⟩ => ⟨S_, .f32⟩
  | .hbm, ⟨73, _⟩ => ⟨S16x4096x2048, .f32⟩
  | .hbm, ⟨74, _⟩ => ⟨S16x4096x2048, .f32⟩
  | .hbm, ⟨75, _⟩ => ⟨S16x4096x1024, .f32⟩
  | .hbm, ⟨76, _⟩ => ⟨S16x4096x1024, .f32⟩
  | .hbm, ⟨77, _⟩ => ⟨S16x4096x1024, .bf16⟩
  | .hbm, ⟨78, _⟩ => ⟨S16x4096x1024, .bf16⟩
  | .hbm, ⟨79, _⟩ => ⟨S16x4096x1024, .bf16⟩
  | .hbm, ⟨80, _⟩ => ⟨S16x4096x1024, .bf16⟩
  | .hbm, ⟨81, _⟩ => ⟨S16x4096x1024, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_0 : Ref sig .tc := ⟨.hbm, 37, rfl⟩
abbrev main_call1_v0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst : Ref sig .tc := ⟨.hbm, 69, rfl⟩
abbrev main_v60 : Ref sig .tc := ⟨.hbm, 70, rfl⟩
abbrev main_v61 : Ref sig .tc := ⟨.hbm, 71, rfl⟩
abbrev main_cst_1 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩

abbrev nD : Nat := 1
abbrev τ : Topo := Topo.v7x

variable {F : FTy → Type} [FloatOps F]
-- ==== Mixout.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 19
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S65536x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S65536x1024, .f32⟩
  | .hbm, ⟨16, _⟩ => ⟨S65536x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixoutIdeal.lean ====
variable {F : FTy → Type} [FloatOps F] [Named F]
def κ : String → Option EReal := fun
  | "alpha" => some ((Real.sqrt 2 : ℝ) : EReal)
  | "ln_eps" => some ((1 / 100000 : ℝ) : EReal)
  | _ => none
-- ==== MixoutRefIdeal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S65536x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S1x1024, .f32⟩
  | .hbm, ⟨52, _⟩ => ⟨S65536x1024, .f32⟩
  | .hbm, ⟨53, _⟩ => ⟨S65536x1024, .f32⟩
  | .hbm, ⟨54, _⟩ => ⟨S1x1024, .f32⟩
  | .hbm, ⟨55, _⟩ => ⟨S65536x1024, .f32⟩
  | .hbm, ⟨56, _⟩ => ⟨S65536x1024, .f32⟩
  | .hbm, ⟨57, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Ffn.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S65536x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S65536x1024, .f32⟩
  | .hbm, ⟨13, _⟩ => ⟨S65536x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnIdeal.lean ====
variable {F : FTy → Type} [FloatOps F] [Named F]
def κ : String → Option EReal := fun
  | "alpha" => some ((Real.sqrt 2 : ℝ) : EReal)
  | "ln_eps" => some ((1 / 100000 : ℝ) : EReal)
  | _ => none
-- ==== FfnRefIdeal.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S65536x2816 : Shape := ⟨2, ![65536, 2816]⟩
abbrev S65536 : Shape := ⟨1, ![65536]⟩
abbrev S65536x1 : Shape := ⟨2, ![65536, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S65536x1024, .f32⟩
  | .hbm, ⟨10, _⟩ => ⟨S65536x1024, .f32⟩
  | .hbm, ⟨11, _⟩ => ⟨S65536x2816, .f32⟩
  | .hbm, ⟨12, _⟩ => ⟨S65536x2816, .f32⟩
  | .hbm, ⟨13, _⟩ => ⟨S65536x2816, .f32⟩
  | .hbm, ⟨14, _⟩ => ⟨S_, .f32⟩
  | .hbm, ⟨15, _⟩ => ⟨S65536x2816, .f32⟩
  | .hbm, ⟨16, _⟩ => ⟨S65536x2816, .f32⟩
  | .hbm, ⟨17, _⟩ => ⟨S_, .f32⟩
  | .hbm, ⟨18, _⟩ => ⟨S65536x2816, .f32⟩
  | .hbm, ⟨19, _⟩ => ⟨S65536x2816, .f32⟩
  | .hbm, ⟨20, _⟩ => ⟨S65536x2816, .f32⟩
  | .hbm, ⟨21, _⟩ => ⟨S65536x2816, .f32⟩
  | .hbm, ⟨22, _⟩ => ⟨S65536x2816, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S65536x1, .f32⟩
  | .hbm, ⟨48, _⟩ => ⟨S65536x1024, .f32⟩
  | .hbm, ⟨49, _⟩ => ⟨S65536x1024, .f32⟩
  | .hbm, ⟨50, _⟩ => ⟨S1x1024, .f32⟩
  | .hbm, ⟨51, _⟩ => ⟨S65536x1024, .f32⟩
  | .hbm, ⟨52, _⟩ => ⟨S65536x1024, .f32⟩
  | .hbm, ⟨53, _⟩ => ⟨S1x1024, .f32⟩
  | .hbm, ⟨54, _⟩ => ⟨S65536x1024, .f32⟩
  | .hbm, ⟨55, _⟩ => ⟨S65536x1024, .f32⟩
  | .hbm, ⟨56, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Experts.lean ====
abbrev S139264x1024 : Shape := ⟨2, ![139264, 1024]⟩
abbrev S136 : Shape := ⟨1, ![136]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1 : Shape := ⟨1, ![1]⟩
abbrev S1x1024x3584 : Shape := ⟨3, ![1, 1024, 3584]⟩
abbrev S1x3584x1024 : Shape := ⟨3, ![1, 3584, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 5
  | .vmem => 7
  | .smem => 1
  | _ => 0

abbrev bufTy : (tb : Table) → Fin (tcTables nBuf tb) → BufTy
  | .hbm, ⟨0, _⟩ => ⟨S139264x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S139264x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x3584, .bf16⟩
  | .local _ .vmem, ⟨3, _⟩ => ⟨S1x1024x3584, .bf16⟩
  | .local _ .vmem, ⟨4, _⟩ => ⟨S1x3584x1024, .bf16⟩
  | .local _ .vmem, ⟨5, _⟩ => ⟨S1024x1024, .f32⟩
  | .local _ .vmem, ⟨6, _⟩ => ⟨S1024x1024, .f32⟩
  | .local _ .smem, ⟨0, _⟩ => ⟨S136, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![136], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k0_cond2 (v1 : BitVec 32) : BitVec 1 :=
  let c8_i32 : BitVec 32 := 8#32
  let v2 : BitVec 1 := Scalar.cmpi .slt v1 c8_i32
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c8_i32 : BitVec 32 := 8#32
  let v2 : BitVec 1 := Scalar.cmpi .slt v1 c8_i32
  let c0_i32 : BitVec 32 := 0#32
  let v3 : BitVec 32 := Scalar.select v2 arg0 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S139264x1024 : Shape := ⟨2, ![139264, 1024]⟩
abbrev S136 : Shape := ⟨1, ![136]⟩
abbrev S8x1024x3584 : Shape := ⟨3, ![8, 1024, 3584]⟩
abbrev S8x3584x1024 : Shape := ⟨3, ![8, 3584, 1024]⟩
abbrev S136x1024 : Shape := ⟨2, ![136, 1024]⟩
abbrev S139264 : Shape := ⟨1, ![139264]⟩
abbrev S139264x1 : Shape := ⟨2, ![139264, 1]⟩
abbrev S1x8 : Shape := ⟨2, ![1, 8]⟩
abbrev S139264x8 : Shape := ⟨2, ![139264, 8]⟩
abbrev S_ : Shape := ⟨0, ![]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S139264x3584 : Shape := ⟨2, ![139264, 3584]⟩

abbrev nBuf : Space → Nat
  | .hbm => 202
  | .vmem => 0
  | .smem => 0
  | _ => 0

abbrev hbmTy0_0 (i : Nat) : BufTy := match i % 128 with
  | 0 => ⟨S139264x1024, .f32⟩
  | 1 => ⟨S136, .i32⟩
  | 2 => ⟨S8x1024x3584, .bf16⟩
  | 3 => ⟨S8x1024x3584, .bf16⟩
  | 4 => ⟨S8x3584x1024, .bf16⟩
  | 5 => ⟨S8x1024x3584, .f32⟩
  | 6 => ⟨S8x1024x3584, .f32⟩
  | 7 => ⟨S8x3584x1024, .f32⟩
  | 8 => ⟨S136x1024, .i32⟩
  | 9 => ⟨S139264, .i32⟩
  | 10 => ⟨S139264x1, .i32⟩
  | 11 => ⟨S1x8, .i32⟩
  | 12 => ⟨S139264x8, .i32⟩
  | 13 => ⟨S139264x8, .i32⟩
  | 14 => ⟨S139264x8, .i1⟩
  | 15 => ⟨S139264x8, .f32⟩
  | 16 => ⟨S_, .f32⟩
  | 17 => ⟨S139264x1024, .f32⟩
  | 18 => ⟨S139264x1, .f32⟩
  | 19 => ⟨S1x1024x3584, .f32⟩
  | 20 => ⟨S1024x3584, .f32⟩
  | 21 => ⟨S1x1024x3584, .f32⟩
  | 22 => ⟨S1024x3584, .f32⟩
  | 23 => ⟨S1x3584x1024, .f32⟩
  | 24 => ⟨S3584x1024, .f32⟩
  | 25 => ⟨S139264x3584, .f32⟩
  | 26 => ⟨S139264x3584, .f32⟩
  | 27 => ⟨S139264x3584, .f32⟩
  | 28 => ⟨S_, .f32⟩
  | 29 => ⟨S139264x3584, .f32⟩
  | 30 => ⟨S139264x3584, .f32⟩
  | 31 => ⟨S_, .f32⟩
  | 32 => ⟨S139264x3584, .f32⟩
  | 33 => ⟨S139264x3584, .f32⟩
  | 34 => ⟨S139264x3584, .f32⟩
  | 35 => ⟨S139264x3584, .f32⟩
  | 36 => ⟨S139264x3584, .f32⟩
  | 37 => ⟨S139264x1024, .f32⟩
  | 38 => ⟨S139264x1024, .f32⟩
  | 39 => ⟨S139264x1024, .f32⟩
  | 40 => ⟨S139264x1024, .f32⟩
  | 41 => ⟨S139264x1, .f32⟩
  | 42 => ⟨S1x1024x3584, .f32⟩
  | 43 => ⟨S1024x3584, .f32⟩
  | 44 => ⟨S1x1024x3584, .f32⟩
  | 45 => ⟨S1024x3584, .f32⟩
  | 46 => ⟨S1x3584x1024, .f32⟩
  | 47 => ⟨S3584x1024, .f32⟩
  | 48 => ⟨S139264x3584, .f32⟩
  | 49 => ⟨S139264x3584, .f32⟩
  | 50 => ⟨S139264x3584, .f32⟩
  | 51 => ⟨S_, .f32⟩
  | 52 => ⟨S139264x3584, .f32⟩
  | 53 => ⟨S139264x3584, .f32⟩
  | 54 => ⟨S_, .f32⟩
  | 55 => ⟨S139264x3584, .f32⟩
  | 56 => ⟨S139264x3584, .f32⟩
  | 57 => ⟨S139264x3584, .f32⟩
  | 58 => ⟨S139264x3584, .f32⟩
  | 59 => ⟨S139264x3584, .f32⟩
  | 60 => ⟨S139264x1024, .f32⟩
  | 61 => ⟨S139264x1024, .f32⟩
  | 62 => ⟨S139264x1024, .f32⟩
  | 63 => ⟨S139264x1024, .f32⟩
  | 64 => ⟨S139264x1, .f32⟩
  | 65 => ⟨S1x1024x3584, .f32⟩
  | 66 => ⟨S1024x3584, .f32⟩
  | 67 => ⟨S1x1024x3584, .f32⟩
  | 68 => ⟨S1024x3584, .f32⟩
  | 69 => ⟨S1x3584x1024, .f32⟩
  | 70 => ⟨S3584x1024, .f32⟩
  | 71 => ⟨S139264x3584, .f32⟩
  | 72 => ⟨S139264x3584, .f32⟩
  | 73 => ⟨S139264x3584, .f32⟩
  | 74 => ⟨S_, .f32⟩
  | 75 => ⟨S139264x3584, .f32⟩
  | 76 => ⟨S139264x3584, .f32⟩
  | 77 => ⟨S_, .f32⟩
  | 78 => ⟨S139264x3584, .f32⟩
  | 79 => ⟨S139264x3584, .f32⟩
  | 80 => ⟨S139264x3584, .f32⟩
  | 81 => ⟨S139264x3584, .f32⟩
  | 82 => ⟨S139264x3584, .f32⟩
  | 83 => ⟨S139264x1024, .f32⟩
  | 84 => ⟨S139264x1024, .f32⟩
  | 85 => ⟨S139264x1024, .f32⟩
  | 86 => ⟨S139264x1024, .f32⟩
  | 87 => ⟨S139264x1, .f32⟩
  | 88 => ⟨S1x1024x3584, .f32⟩
  | 89 => ⟨S1024x3584, .f32⟩
  | 90 => ⟨S1x1024x3584, .f32⟩
  | 91 => ⟨S1024x3584, .f32⟩
  | 92 => ⟨S1x3584x1024, .f32⟩
  | 93 => ⟨S3584x1024, .f32⟩
  | 94 => ⟨S139264x3584, .f32⟩
  | 95 => ⟨S139264x3584, .f32⟩
  | 96 => ⟨S139264x3584, .f32⟩
  | 97 => ⟨S_, .f32⟩
  | 98 => ⟨S139264x3584, .f32⟩
  | 99 => ⟨S139264x3584, .f32⟩
  | 100 => ⟨S_, .f32⟩
  | 101 => ⟨S139264x3584, .f32⟩
  | 102 => ⟨S139264x3584, .f32⟩
  | 103 => ⟨S139264x3584, .f32⟩
  | 104 => ⟨S139264x3584, .f32⟩
  | 105 => ⟨S139264x3584, .f32⟩
  | 106 => ⟨S139264x1024, .f32⟩
  | 107 => ⟨S139264x1024, .f32⟩
  | 108 => ⟨S139264x1024, .f32⟩
  | 109 => ⟨S139264x1024, .f32⟩
  | 110 => ⟨S139264x1, .f32⟩
  | 111 => ⟨S1x1024x3584, .f32⟩
  | 112 => ⟨S1024x3584, .f32⟩
  | 113 => ⟨S1x1024x3584, .f32⟩
  | 114 => ⟨S1024x3584, .f32⟩
  | 115 => ⟨S1x3584x1024, .f32⟩
  | 116 => ⟨S3584x1024, .f32⟩
  | 117 => ⟨S139264x3584, .f32⟩
  | 118 => ⟨S139264x3584, .f32⟩
  | 119 => ⟨S139264x3584, .f32⟩
  | 120 => ⟨S_, .f32⟩
  | 121 => ⟨S139264x3584, .f32⟩
  | 122 => ⟨S139264x3584, .f32⟩
  | 123 => ⟨S_, .f32⟩
  | 124 => ⟨S139264x3584, .f32⟩
  | 125 => ⟨S139264x3584, .f32⟩
  | 126 => ⟨S139264x3584, .f32⟩
  | 127 => ⟨S139264x3584, .f32⟩
  | _ => ⟨S139264x1024, .f32⟩

abbrev hbmTy0_1 (i : Nat) : BufTy := match i % 128 with
  | 0 => ⟨S139264x3584, .f32⟩
  | 1 => ⟨S139264x1024, .f32⟩
  | 2 => ⟨S139264x1024, .f32⟩
  | 3 => ⟨S139264x1024, .f32⟩
  | 4 => ⟨S139264x1024, .f32⟩
  | 5 => ⟨S139264x1, .f32⟩
  | 6 => ⟨S1x1024x3584, .f32⟩
  | 7 => ⟨S1024x3584, .f32⟩
  | 8 => ⟨S1x1024x3584, .f32⟩
  | 9 => ⟨S1024x3584, .f32⟩
  | 10 => ⟨S1x3584x1024, .f32⟩
  | 11 => ⟨S3584x1024, .f32⟩
  | 12 => ⟨S139264x3584, .f32⟩
  | 13 => ⟨S139264x3584, .f32⟩
  | 14 => ⟨S139264x3584, .f32⟩
  | 15 => ⟨S_, .f32⟩
  | 16 => ⟨S139264x3584, .f32⟩
  | 17 => ⟨S139264x3584, .f32⟩
  | 18 => ⟨S_, .f32⟩
  | 19 => ⟨S139264x3584, .f32⟩
  | 20 => ⟨S139264x3584, .f32⟩
  | 21 => ⟨S139264x3584, .f32⟩
  | 22 => ⟨S139264x3584, .f32⟩
  | 23 => ⟨S139264x3584, .f32⟩
  | 24 => ⟨S139264x1024, .f32⟩
  | 25 => ⟨S139264x1024, .f32⟩
  | 26 => ⟨S139264x1024, .f32⟩
  | 27 => ⟨S139264x1024, .f32⟩
  | 28 => ⟨S139264x1, .f32⟩
  | 29 => ⟨S1x1024x3584, .f32⟩
  | 30 => ⟨S1024x3584, .f32⟩
  | 31 => ⟨S1x1024x3584, .f32⟩
  | 32 => ⟨S1024x3584, .f32⟩
  | 33 => ⟨S1x3584x1024, .f32⟩
  | 34 => ⟨S3584x1024, .f32⟩
  | 35 => ⟨S139264x3584, .f32⟩
  | 36 => ⟨S139264x3584, .f32⟩
  | 37 => ⟨S139264x3584, .f32⟩
  | 38 => ⟨S_, .f32⟩
  | 39 => ⟨S139264x3584, .f32⟩
  | 40 => ⟨S139264x3584, .f32⟩
  | 41 => ⟨S_, .f32⟩
  | 42 => ⟨S139264x3584, .f32⟩
  | 43 => ⟨S139264x3584, .f32⟩
  | 44 => ⟨S139264x3584, .f32⟩
  | 45 => ⟨S139264x3584, .f32⟩
  | 46 => ⟨S139264x3584, .f32⟩
  | 47 => ⟨S139264x1024, .f32⟩
  | 48 => ⟨S139264x1024, .f32⟩
  | 49 => ⟨S139264x1024, .f32⟩
  | 50 => ⟨S139264x1024, .f32⟩
  | 51 => ⟨S139264x1, .f32⟩
  | 52 => ⟨S1x1024x3584, .f32⟩
  | 53 => ⟨S1024x3584, .f32⟩
  | 54 => ⟨S1x1024x3584, .f32⟩
  | 55 => ⟨S1024x3584, .f32⟩
  | 56 => ⟨S1x3584x1024, .f32⟩
  | 57 => ⟨S3584x1024, .f32⟩
  | 58 => ⟨S139264x3584, .f32⟩
  | 59 => ⟨S139264x3584, .f32⟩
  | 60 => ⟨S139264x3584, .f32⟩
  | 61 => ⟨S_, .f32⟩
  | 62 => ⟨S139264x3584, .f32⟩
  | 63 => ⟨S139264x3584, .f32⟩
  | 64 => ⟨S_, .f32⟩
  | 65 => ⟨S139264x3584, .f32⟩
  | 66 => ⟨S139264x3584, .f32⟩
  | 67 => ⟨S139264x3584, .f32⟩
  | 68 => ⟨S139264x3584, .f32⟩
  | 69 => ⟨S139264x3584, .f32⟩
  | 70 => ⟨S139264x1024, .f32⟩
  | 71 => ⟨S139264x1024, .f32⟩
  | 72 => ⟨S139264x1024, .f32⟩
  | 73 => ⟨S139264x1024, .f32⟩
  | _ => ⟨S139264x1024, .f32⟩

abbrev hbmTy (i : Nat) : BufTy := match i / 128 with
  | 0 => hbmTy0_0 i
  | 1 => hbmTy0_1 i
  | _ => ⟨S139264x1024, .f32⟩

abbrev bufTy : (tb : Table) → Fin (tcTables nBuf tb) → BufTy
  | .hbm, ⟨i, _⟩ => hbmTy i
  | _, _ => ⟨S139264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call3_v0 : Ref sig .tc := ⟨.hbm, 72, rfl⟩
abbrev main_call3_v1 : Ref sig .tc := ⟨.hbm, 73, rfl⟩
abbrev main_call3_cst : Ref sig .tc := ⟨.hbm, 74, rfl⟩
abbrev main_call3_v2 : Ref sig .tc := ⟨.hbm, 75, rfl⟩
abbrev main_call3_v3 : Ref sig .tc := ⟨.hbm, 76, rfl⟩
abbrev main_call3_cst_0 : Ref sig .tc := ⟨.hbm, 77, rfl⟩
abbrev main_call3_v4 : Ref sig .tc := ⟨.hbm, 78, rfl⟩
abbrev main_call3_v5 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_call5_v0 : Ref sig .tc := ⟨.hbm, 118, rfl⟩
abbrev main_call5_v1 : Ref sig .tc := ⟨.hbm, 119, rfl⟩
abbrev main_call5_cst : Ref sig .tc := ⟨.hbm, 120, rfl⟩
abbrev main_call5_v2 : Ref sig .tc := ⟨.hbm, 121, rfl⟩
abbrev main_call5_v3 : Ref sig .tc := ⟨.hbm, 122, rfl⟩
abbrev main_call5_cst_0 : Ref sig .tc := ⟨.hbm, 123, rfl⟩
abbrev main_call5_v4 : Ref sig .tc := ⟨.hbm, 124, rfl⟩
abbrev main_call5_v5 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_call6_v0 : Ref sig .tc := ⟨.hbm, 141, rfl⟩
abbrev main_call6_v1 : Ref sig .tc := ⟨.hbm, 142, rfl⟩
abbrev main_call6_cst : Ref sig .tc := ⟨.hbm, 143, rfl⟩
abbrev main_call6_v2 : Ref sig .tc := ⟨.hbm, 144, rfl⟩
abbrev main_call6_v3 : Ref sig .tc := ⟨.hbm, 145, rfl⟩
abbrev main_call6_cst_0 : Ref sig .tc := ⟨.hbm, 146, rfl⟩
abbrev main_call6_v4 : Ref sig .tc := ⟨.hbm, 147, rfl⟩
abbrev main_call6_v5 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_call7_v0 : Ref sig .tc := ⟨.hbm, 164, rfl⟩
abbrev main_call7_v1 : Ref sig .tc := ⟨.hbm, 165, rfl⟩
abbrev main_call7_cst : Ref sig .tc := ⟨.hbm, 166, rfl⟩
abbrev main_call7_v2 : Ref sig .tc := ⟨.hbm, 167, rfl⟩
abbrev main_call7_v3 : Ref sig .tc := ⟨.hbm, 168, rfl⟩
abbrev main_call7_cst_0 : Ref sig .tc := ⟨.hbm, 169, rfl⟩
abbrev main_call7_v4 : Ref sig .tc := ⟨.hbm, 170, rfl⟩
abbrev main_call7_v5 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_call8_v0 : Ref sig .tc := ⟨.hbm, 187, rfl⟩
abbrev main_call8_v1 : Ref sig .tc := ⟨.hbm, 188, rfl⟩
abbrev main_call8_cst : Ref sig .tc := ⟨.hbm, 189, rfl⟩
abbrev main_call8_v2 : Ref sig .tc := ⟨.hbm, 190, rfl⟩
abbrev main_call8_v3 : Ref sig .tc := ⟨.hbm, 191, rfl⟩
abbrev main_call8_cst_0 : Ref sig .tc := ⟨.hbm, 192, rfl⟩
abbrev main_call8_v4 : Ref sig .tc := ⟨.hbm, 193, rfl⟩
abbrev main_call8_v5 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩

abbrev nD : Nat := 1
abbrev τ : Topo := Topo.v7x

variable {F : FTy → Type} [FloatOps F]
-- ==== Route.lean ====
abbrev S65536x1024 : Shape := ⟨2, ![65536, 1024]⟩
abbrev S1024x8 : Shape := ⟨2, ![1024, 8]⟩
abbrev S_ : Shape := ⟨0, ![]⟩
abbrev S1024x128 : Shape := ⟨2, ![1024, 128]⟩
abbrev S65536x128 : Shape := ⟨2, ![65536, 128]⟩
abbrev S8x65536 : Shape := ⟨2, ![8, 65536]⟩
abbrev S1x128 : Shape := ⟨2, ![1, 128]⟩
abbrev S512x1024 : Shape := ⟨2, ![512, 1024]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S512x512 : Shape := ⟨2, ![512, 512]⟩
abbrev S128 : Shape := ⟨1, ![128]⟩
abbrev S128x512 : Shape := ⟨2, ![128, 512]⟩

abbrev nBuf : Space → Nat
  | .hbm => 8
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024x8, .f32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S65536x128, .f32⟩
  | .hbm, ⟨6, _⟩ => ⟨S8x65536, .f32⟩
  | .hbm, ⟨7, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S512x128, .f32⟩
  | .local _ .vmem, ⟨4, _⟩ => ⟨S512x128, .f32⟩
  | .local _ .vmem, ⟨5, _⟩ => ⟨S8x512, .f32⟩
  | .local _ .vmem, ⟨6, _⟩ => ⟨S8x512, .f32⟩
  | .local _ .vmem, ⟨7, _⟩ => ⟨S1x128, .f32⟩
  | .local _ .vmem, ⟨8, _⟩ => ⟨S1x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RouteRefIdeal.lean ====
abbrev S65536x1024 : Shape := ⟨2, ![65536, 1024]⟩
abbrev S1024x8 : Shape := ⟨2, ![1024, 8]⟩
abbrev S65536x8 : Shape := ⟨2, ![65536, 8]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S65536x2x1 : Shape := ⟨3, ![65536, 2, 1]⟩
abbrev S1x1x8 : Shape := ⟨3, ![1, 1, 8]⟩
abbrev S65536x2x8 : Shape := ⟨3, ![65536, 2, 8]⟩
abbrev S65536x1x8 : Shape := ⟨3, ![65536, 1, 8]⟩
abbrev S1x65536 : Shape := ⟨2, ![1, 65536]⟩
abbrev S65536x65536 : Shape := ⟨2, ![65536, 65536]⟩
abbrev S65536x6 : Shape := ⟨2, ![65536, 6]⟩
abbrev S65536x128 : Shape := ⟨2, ![65536, 128]⟩
abbrev S8 : Shape := ⟨1, ![8]⟩
abbrev S128 : Shape := ⟨1, ![128]⟩
abbrev S8x65536 : Shape := ⟨2, ![8, 65536]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x8, .f32⟩
  | .hbm, ⟨2, _⟩ => ⟨S65536x8, .f32⟩
  | .hbm, ⟨3, _⟩ => ⟨S65536x2, .f32⟩
  | .hbm, ⟨4, _⟩ => ⟨S65536x2, .i32⟩
  | .hbm, ⟨5, _⟩ => ⟨S_, .f32⟩
  | .hbm, ⟨6, _⟩ => ⟨S65536, .f32⟩
  | .hbm, ⟨7, _⟩ => ⟨S_, .f32⟩
  | .hbm, ⟨8, _⟩ => ⟨S65536, .f32⟩
  | .hbm, ⟨9, _⟩ => ⟨S65536, .f32⟩
  | .hbm, ⟨10, _⟩ => ⟨S65536x1, .f32⟩
  | .hbm, ⟨11, _⟩ => ⟨S65536x2, .f32⟩
  | .hbm, ⟨12, _⟩ => ⟨S65536x2, .f32⟩
  | .hbm, ⟨13, _⟩ => ⟨S65536x2, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S65536x2, .f32⟩
  | .hbm, ⟨18, _⟩ => ⟨S65536x2, .f32⟩
  | .hbm, ⟨19, _⟩ => ⟨S65536x2x1, .i32⟩
  | .hbm, ⟨20, _⟩ => ⟨S1x1x8, .i32⟩
  | .hbm, ⟨21, _⟩ => ⟨S65536x2x8, .i32⟩
  | .hbm, ⟨22, _⟩ => ⟨S65536x2x8, .i32⟩
  | .hbm, ⟨23, _⟩ => ⟨S65536x2x8, .i1⟩
  | .hbm, ⟨24, _⟩ => ⟨S65536x2x8, .f32⟩
  | .hbm, ⟨25, _⟩ => ⟨S65536x1x8, .f32⟩
  | .hbm, ⟨26, _⟩ => ⟨S65536x8, .f32⟩
  | .hbm, ⟨27, _⟩ => ⟨S65536x1x8, .f32⟩
  | .hbm, ⟨28, _⟩ => ⟨S65536x8, .f32⟩
  | .hbm, ⟨29, _⟩ => ⟨S65536x8, .f32⟩
  | .hbm, ⟨30, _⟩ => ⟨S65536, .i32⟩
  | .hbm, ⟨31, _⟩ => ⟨S1x65536, .i32⟩
  | .hbm, ⟨32, _⟩ => ⟨S65536, .i32⟩
  | .hbm, ⟨33, _⟩ => ⟨S65536x1, .i32⟩
  | .hbm, ⟨34, _⟩ => ⟨S65536x65536, .i32⟩
  | .hbm, ⟨35, _⟩ => ⟨S65536x65536, .i32⟩
  | .hbm, ⟨36, _⟩ => ⟨S65536x65536, .i1⟩
  | .hbm, ⟨37, _⟩ => ⟨S_, .f32⟩
  | .hbm, ⟨38, _⟩ => ⟨S_, .f32⟩
  | .hbm, ⟨39, _⟩ => ⟨S65536x65536, .f32⟩
  | .hbm, ⟨40, _⟩ => ⟨S65536x65536, .f32⟩
  | .hbm, ⟨41, _⟩ => ⟨S65536x65536, .f32⟩
  | .hbm, ⟨42, _⟩ => ⟨S65536x8, .f32⟩
  | .hbm, ⟨43, _⟩ => ⟨S65536x2, .f32⟩
  | .hbm, ⟨44, _⟩ => ⟨S65536x2, .f32⟩
  | .hbm, ⟨45, _⟩ => ⟨S65536x6, .f32⟩
  | .hbm, ⟨46, _⟩ => ⟨S_, .i32⟩
  | .hbm, ⟨47, _⟩ => ⟨S_, .f32⟩
  | .hbm, ⟨48, _⟩ => ⟨S65536x128, .f32⟩
  | .hbm, ⟨49, _⟩ => ⟨S_, .f32⟩
  | .hbm, ⟨50, _⟩ => ⟨S8, .f32⟩
  | .hbm, ⟨51, _⟩ => ⟨S_, .i32⟩
  | .hbm, ⟨52, _⟩ => ⟨S_, .f32⟩
  | .hbm, ⟨53, _⟩ => ⟨S128, .f32⟩
  | .hbm, ⟨54, _⟩ => ⟨S65536x8, .f32⟩
  | .hbm, ⟨55, _⟩ => ⟨S8x65536, .f32⟩
  | .hbm, ⟨56, _⟩ => ⟨S1x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_call2_v0 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_c_5 : Ref sig .tc := ⟨.hbm, 51, rfl⟩
abbrev main_call3_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== LnIn.lean ====
abbrev S65536x1024 : Shape := ⟨2, ![65536, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S65536x1024, .f32⟩
  | .hbm, ⟨6, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnInIdeal.lean ====
variable {F : FTy → Type} [FloatOps F] [Named F]
def κ : String → Option EReal := fun
  | "alpha" => some ((Real.sqrt 2 : ℝ) : EReal)
  | "ln_eps" => some ((1 / 100000 : ℝ) : EReal)
  | _ => none
-- ==== LnInRefIdeal.lean ====
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S65536x1, .f32⟩
  | .hbm, ⟨8, _⟩ => ⟨S65536x1, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S1x1024, .f32⟩
  | .hbm, ⟨32, _⟩ => ⟨S65536x1024, .f32⟩
  | .hbm, ⟨33, _⟩ => ⟨S65536x1024, .f32⟩
  | .hbm, ⟨34, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Taps.lean ====
module

public import Idealize.ShloMosaic.Lib.Pointwise

@[expose] public section

/-! The centred convolution of width three over 4096 positions, and the three forms in which the kernel's chunks of 512 rows compute it. -/

noncomputable section

open Idealize.ShloMosaic

namespace Cert.Rows

/-- The entry before position `s`, zero before the first. -/
def prev (u : Fin 4096 → EReal) (s : Fin 4096) : EReal := if h : 1 ≤ s.val then u ⟨s.val - 1, by omega⟩ else 0

/-- The entry after position `s`, zero after the last. -/
def next (u : Fin 4096 → EReal) (s : Fin 4096) : EReal := if h : s.val + 1 < 4096 then u ⟨s.val + 1, h⟩ else 0

/-- The convolution of `u` with the three taps `a`, `b`, `c` at position `s`. -/
def taps (u : Fin 4096 → EReal) (a b c : EReal) (s : Fin 4096) : EReal := prev u s * a + u s * b + next u s * c

/-- A choice by an equality test of two small words is a choice by the equality of the numbers. -/
theorem select_eq (n k : ℕ) (hn : n < 512) (hk : k < 512) (x z : EReal) :
    Scalar.select (IntOp.cmpi CmpIPredicate.eq (BitVec.ofNat 32 n) (BitVec.ofNat 32 k)) x z = if n = k then x else z := by
  by_cases h : n = k
  · subst h; simp [Scalar.select, IntOp.cmpi]
  · have this : (BitVec.ofNat 32 n == BitVec.ofNat 32 k) = false := by
      refine beq_eq_false_iff_ne.2 fun e => h ?_
      have e' := congrArg BitVec.toNat e
      simp only [BitVec.toNat_ofNat] at e'
      omega
    simp [Scalar.select, IntOp.cmpi, h, this]

/-- The entry before a position that is not the first. -/
theorem prev_eq (u : Fin 4096 → EReal) (s p : Fin 4096) (hp : p.val + 1 = s.val) : prev u s = u p := by
  rw [prev, dif_pos (by omega)]
  exact congrArg u (Fin.ext (by dsimp only; omega))

/-- The entry after a position that is not the last. -/
theorem next_eq (u : Fin 4096 → EReal) (s r : Fin 4096) (hr : r.val = s.val + 1) : next u s = u r := by
  rw [next, dif_pos (by omega)]
  exact congrArg u (Fin.ext (by dsimp only; omega))

/-- An inner position: all three entries are there. -/
theorem taps_mid (u : Fin 4096 → EReal) (a b c : EReal) (s p q r : Fin 4096) (hp : p.val + 1 = s.val) (hq : q.val = s.val)
    (hr : r.val = s.val + 1) : u p * a + u q * b + u r * c = taps u a b c s := by
  rw [taps, prev_eq u s p hp, next_eq u s r hr, show q = s from Fin.ext hq]

/-- The first chunk: row 0 takes zero for the entry before it. -/
theorem taps_first (u : Fin 4096 → EReal) (a b c : EReal) (n : ℕ) (s p q r : Fin 4096) (hn : n < 512) (hs : s.val = n)
    (hp : 1 ≤ n → p.val + 1 = s.val) (hq : q.val = s.val) (hr : r.val = s.val + 1) :
    Scalar.select (IntOp.cmpi CmpIPredicate.eq (BitVec.ofNat 32 n) 0#32) 0 (u p * a) + u q * b + u r * c = taps u a b c s := by
  rw [select_eq n 0 hn (by omega)]
  by_cases h : n = 0
  · rw [if_pos h, taps, next_eq u s r hr, show q = s from Fin.ext hq, prev, dif_neg (by omega), zero_mul]
  · rw [if_neg h]
    exact taps_mid u a b c s p q r (hp (by omega)) hq hr

/-- The last chunk: row 511 takes zero for the entry after it. -/
theorem taps_last (u : Fin 4096 → EReal) (a b c : EReal) (n : ℕ) (s p q r : Fin 4096) (hn : n < 512) (hs : s.val = 3584 + n)
    (hp : p.val + 1 = s.val) (hq : q.val = s.val) (hr : n < 511 → r.val = s.val + 1) :
    u p * a + u q * b + Scalar.select (IntOp.cmpi CmpIPredicate.eq (BitVec.ofNat 32 n) 511#32) 0 (u r * c) = taps u a b c s := by
  rw [select_eq n 511 hn (by omega)]
  by_cases h : n = 511
  · rw [if_pos h, taps, prev_eq u s p hp, show q = s from Fin.ext hq, next, dif_neg (by omega), zero_mul]
  · rw [if_neg h]
    exact taps_mid u a b c s p q r hp hq (hr (by omega))

end Cert.Rows

end
-- ==== Proof.InprojTiles.lean ====
module

public import proofs.«01_k».proof.Proof.Gen.InprojIdeal.Frame
public import proofs.«01_k».proof.Proof.Taps
public import Idealize.ShloMosaic.Lib.Pipeline.ValueKit

@[expose] public section

/-! The output blocks of one grid point of the input projection, read row by row. -/

set_option maxRecDepth 16384

noncomputable section

open Idealize.ShloMosaic Idealize.ShloMosaic.TcCoe Idealize.SL.Sem Cert.Rows

namespace Cert.InprojIdeal.Value

open Cert.InprojIdeal Cert.InprojIdeal.Gen

variable (x0 : Vec Ideal S1x4096x1024 .bf16) (x1 x2 x3 x4 x5 x6 x7 x8 : Vec Ideal S1024x256 .bf16)
  (x9 x10 x11 x12 : Vec Ideal S3x256 .f32) (x13 x14 x15 : Vec Ideal S1x256 .f32)

/-- Column `l` of the product of the block of rows with a block of columns. -/
def col (x : Vec Ideal S1x4096x1024 .bf16) (w : Vec Ideal S1024x256 .bf16) (l : Fin 256) (s : Fin 4096) : EReal :=
  ∑ k, (show FVec Ideal S1x4096x1024 .bf16 from x) (ix3 0 s k) * (show FVec Ideal S1024x256 .bf16 from w) (ix2 k l)

/-- The product of two columns. -/
def prod (x : Vec Ideal S1x4096x1024 .bf16) (v w : Vec Ideal S1024x256 .bf16) (l : Fin 256) (s : Fin 4096) : EReal :=
  col x v l s * col x w l s

/-- A column convolved with its taps, plus its bias. -/
def hyena (x : Vec Ideal S1x4096x1024 .bf16) (w : Vec Ideal S1024x256 .bf16) (k : Vec Ideal S3x256 .f32) (b : Vec Ideal S1x256 .f32)
    (l : Fin 256) (s : Fin 4096) : EReal :=
  taps (col x w l) (k (ix2 0 l)) (k (ix2 1 l)) (k (ix2 2 l)) s + b (ix2 0 l)

set_option maxHeartbeats 1600000 in
/-- The short gated convolution: a column times the convolution of the product of two columns. -/
theorem out16_at (y : S1x4096x256.Idx) : out0_16 x0 x1 x2 x3 x4 x5 x6 x7 x8 x9 x10 x11 x12 x13 x14 x15 y =
    col x0 x1 (y 2) (y 1) * taps (prod x0 x2 x3 (y 2)) (x9 (ix2 0 (y 2))) (x9 (ix2 1 (y 2))) (x9 (ix2 2 (y 2))) (y 1) := by
  unfold_out out0_16
  canon_tiles x h
  all_goals
   (pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115])
  case piece0 =>
    rw [← taps_last (prod x0 x2 x3 (y 2)) _ _ _ (x 1).val (y 1) ⟨(y 1).val - 1, by omega⟩ (y 1) ⟨3552 + (32 + (x 1).val + 544 - 543) % 544, by omega⟩
      x1_lt h1 (by dsimp only; omega) rfl (fun _ => by dsimp only; omega)]
    simp only [prod, col]
    blk_point []
  case piece7 =>
    rw [← taps_first (prod x0 x2 x3 (y 2)) _ _ _ (x 1).val (y 1) ⟨((x 1).val + 544 - 1) % 544, by omega⟩ (y 1) ⟨(y 1).val + 1, by omega⟩
      x1_lt h1 (fun _ => by dsimp only; omega) rfl rfl]
    simp only [prod, col]
    blk_point []
  all_goals
   (rw [← taps_mid (prod x0 x2 x3 (y 2)) _ _ _ (y 1) ⟨(y 1).val - 1, by omega⟩ (y 1) ⟨(y 1).val + 1, by omega⟩
      (by dsimp only; omega) rfl rfl]
    simp only [prod, col]
    blk_point [])

set_option maxHeartbeats 1600000 in
/-- The input of the long convolution: the product of two convolved columns. -/
theorem out17_at (y : S1x4096x256.Idx) : out0_17 x0 x1 x2 x3 x4 x5 x6 x7 x8 x9 x10 x11 x12 x13 x14 x15 y =
    hyena x0 x4 x10 x13 (y 2) (y 1) * hyena x0 x5 x11 x14 (y 2) (y 1) := by
  unfold hyena
  unfold_out out0_17
  canon_tiles x h
  all_goals
   (pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115])
  case piece0 =>
    rw [← taps_last (col x0 x4 (y 2)) _ _ _ (x 1).val (y 1) ⟨(y 1).val - 1, by omega⟩ (y 1) ⟨3552 + (32 + (x 1).val + 544 - 543) % 544, by omega⟩
      x1_lt h1 (by dsimp only; omega) rfl (fun _ => by dsimp only; omega)]
    rw [← taps_last (col x0 x5 (y 2)) _ _ _ (x 1).val (y 1) ⟨(y 1).val - 1, by omega⟩ (y 1) ⟨3552 + (32 + (x 1).val + 544 - 543) % 544, by omega⟩
      x1_lt h1 (by dsimp only; omega) rfl (fun _ => by dsimp only; omega)]
    simp only [col]
    blk_point []
  case piece7 =>
    rw [← taps_first (col x0 x4 (y 2)) _ _ _ (x 1).val (y 1) ⟨((x 1).val + 544 - 1) % 544, by omega⟩ (y 1) ⟨(y 1).val + 1, by omega⟩
      x1_lt h1 (fun _ => by dsimp only; omega) rfl rfl]
    rw [← taps_first (col x0 x5 (y 2)) _ _ _ (x 1).val (y 1) ⟨((x 1).val + 544 - 1) % 544, by omega⟩ (y 1) ⟨(y 1).val + 1, by omega⟩
      x1_lt h1 (fun _ => by dsimp only; omega) rfl rfl]
    simp only [col]
    blk_point []
  all_goals
   (rw [← taps_mid (col x0 x4 (y 2)) _ _ _ (y 1) ⟨(y 1).val - 1, by omega⟩ (y 1) ⟨(y 1).val + 1, by omega⟩
      (by dsimp only; omega) rfl rfl]
    rw [← taps_mid (col x0 x5 (y 2)) _ _ _ (y 1) ⟨(y 1).val - 1, by omega⟩ (y 1) ⟨(y 1).val + 1, by omega⟩
      (by dsimp only; omega) rfl rfl]
    simp only [col]
    blk_point [])

set_option maxHeartbeats 1600000 in
/-- The gate of the long convolution: a convolved column. -/
theorem out18_at (y : S1x4096x256.Idx) : out0_18 x0 x1 x2 x3 x4 x5 x6 x7 x8 x9 x10 x11 x12 x13 x14 x15 y =
    hyena x0 x6 x12 x15 (y 2) (y 1) := by
  unfold hyena
  unfold_out out0_18
  canon_tiles x h
  all_goals
   (pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115])
  case piece0 =>
    rw [← taps_last (col x0 x6 (y 2)) _ _ _ (x 1).val (y 1) ⟨(y 1).val - 1, by omega⟩ (y 1) ⟨3552 + (32 + (x 1).val + 544 - 543) % 544, by omega⟩
      x1_lt h1 (by dsimp only; omega) rfl (fun _ => by dsimp only; omega)]
    simp only [col]
    blk_point []
  case piece7 =>
    rw [← taps_first (col x0 x6 (y 2)) _ _ _ (x 1).val (y 1) ⟨((x 1).val + 544 - 1) % 544, by omega⟩ (y 1) ⟨(y 1).val + 1, by omega⟩
      x1_lt h1 (fun _ => by dsimp only; omega) rfl rfl]
    simp only [col]
    blk_point []
  all_goals
   (rw [← taps_mid (col x0 x6 (y 2)) _ _ _ (y 1) ⟨(y 1).val - 1, by omega⟩ (y 1) ⟨(y 1).val + 1, by omega⟩
      (by dsimp only; omega) rfl rfl]
    simp only [col]
    blk_point [])

/-- A branch gate: the logistic of a column. -/
theorem out19_at (y : S1x4096x256.Idx) : out0_19 x0 x1 x2 x3 x4 x5 x6 x7 x8 x9 x10 x11 x12 x13 x14 x15 y = Ideal.logistic (col x0 x7 (y 2) (y 1)) := by
  unfold_out out0_19
  canon_tiles x h
  all_goals
   (pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115]
    simp only [col]
    blk_point [])

/-- A branch gate: the logistic of a column. -/
theorem out20_at (y : S1x4096x256.Idx) : out0_20 x0 x1 x2 x3 x4 x5 x6 x7 x8 x9 x10 x11 x12 x13 x14 x15 y = Ideal.logistic (col x0 x8 (y 2) (y 1)) := by
  unfold_out out0_20
  canon_tiles x h
  all_goals
   (pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115]
    simp only [col]
    blk_point [])

end Cert.InprojIdeal.Value

end
-- ==== Proof.InprojValue.lean ====
module

public import proofs.«01_k».proof.Proof.InprojTiles

@[expose] public section

/-! The five result arrays of the input projection, as functions of its argument arrays. -/

set_option maxRecDepth 16384

noncomputable section

open Idealize.ShloMosaic Idealize.ShloMosaic.TcCoe Idealize.SL.Sem Cert.Rows
open Idealize.ShloMosaic.Pipeline (Dat)

namespace Cert.InprojIdeal.Value

open Cert.InprojIdeal Cert.InprojIdeal.Gen

variable (m : (ℓ : Loc nD τ sig) → Buf (Elt Ideal) ℓ)

section
variable (x : FVec Ideal S16x4096x1024 .bf16) (w : FVec Ideal S1024x8192 .f32) (ca : FVec Ideal S3x1024 .f32)
  (ch : FVec Ideal S3x3072 .f32) (cb : FVec Ideal S3072 .f32)

/-- Column `j` of the projection of sequence `b`, as a function of the position. -/
def column (b : Fin 16) (j : Fin 8192) (s : Fin 4096) : EReal := ∑ k, x (ix3 b s k) * w (ix2 k j)

/-- Channel `j` of the convolved hyena columns, which begin at column 3072, with its bias. -/
def hyenaColumn (b : Fin 16) (j : Fin 3072) (s : Fin 4096) : EReal :=
  taps (column x w b ⟨3072 + j.val, by omega⟩) (ch (ix2 0 j)) (ch (ix2 1 j)) (ch (ix2 2 j)) s + cb (ix1 j)

/-- The short gated convolution: channel `l` multiplies its gate column by the convolution of the product of its two other columns. -/
def shortConv : S16x4096x1024.Idx → EReal := fun i =>
  column x w (i 0) ⟨(i 2).val, lt_of_lt_of_le (i 2).isLt (by decide)⟩ (i 1)
    * taps (fun s => column x w (i 0) ⟨1024 + (i 2).val, by have : (i 2).val < 1024 := (i 2).isLt; omega⟩ s
        * column x w (i 0) ⟨2048 + (i 2).val, by have : (i 2).val < 1024 := (i 2).isLt; omega⟩ s)
      (ca (ix2 0 (i 2))) (ca (ix2 1 (i 2))) (ca (ix2 2 (i 2))) (i 1)

/-- The input of the long convolution: the product of the first two thirds of the hyena channels. -/
def longInput : S16x4096x1024.Idx → EReal := fun i =>
  hyenaColumn x w ch cb (i 0) ⟨(i 2).val, lt_of_lt_of_le (i 2).isLt (by decide)⟩ (i 1)
    * hyenaColumn x w ch cb (i 0) ⟨1024 + (i 2).val, by have : (i 2).val < 1024 := (i 2).isLt; omega⟩ (i 1)

/-- The gate of the long convolution: the last third of the hyena channels. -/
def longGate : S16x4096x1024.Idx → EReal := fun i =>
  hyenaColumn x w ch cb (i 0) ⟨2048 + (i 2).val, by have : (i 2).val < 1024 := (i 2).isLt; omega⟩ (i 1)

/-- The gate of the first branch: the logistic of the columns from 6144. -/
def gateA : S16x4096x1024.Idx → EReal := fun i =>
  Ideal.logistic (column x w (i 0) ⟨6144 + (i 2).val, by have : (i 2).val < 1024 := (i 2).isLt; omega⟩ (i 1))

/-- The gate of the second branch: the logistic of the columns from 7168. -/
def gateH : S16x4096x1024.Idx → EReal := fun i =>
  Ideal.logistic (column x w (i 0) ⟨7168 + (i 2).val, by have : (i 2).val < 1024 := (i 2).isLt; omega⟩ (i 1))

end

/-- Where each window's block lies: point `t` takes sequence `t / 4` and the block `t % 4` of 256 channels within each group of columns. -/
theorem idx : ∀ t : Fin cfg0.N, win0_0.index t = ![t.val / 4, 0, 0]
    ∧ win0_1.index t = ![0, 0 + t.val % 4]
    ∧ win0_2.index t = ![0, 4 + t.val % 4]
    ∧ win0_3.index t = ![0, 8 + t.val % 4]
    ∧ win0_4.index t = ![0, 12 + t.val % 4]
    ∧ win0_5.index t = ![0, 16 + t.val % 4]
    ∧ win0_6.index t = ![0, 20 + t.val % 4]
    ∧ win0_7.index t = ![0, 24 + t.val % 4]
    ∧ win0_8.index t = ![0, 28 + t.val % 4]
    ∧ win0_9.index t = ![0, t.val % 4]
    ∧ win0_10.index t = ![0, 0 + t.val % 4]
    ∧ win0_11.index t = ![0, 4 + t.val % 4]
    ∧ win0_12.index t = ![0, 8 + t.val % 4]
    ∧ win0_13.index t = ![0, 0 + t.val % 4]
    ∧ win0_14.index t = ![0, 4 + t.val % 4]
    ∧ win0_15.index t = ![0, 8 + t.val % 4]
    ∧ win0_16.index t = ![t.val / 4, 0, t.val % 4]
    ∧ win0_17.index t = ![t.val / 4, 0, t.val % 4]
    ∧ win0_18.index t = ![t.val / 4, 0, t.val % 4]
    ∧ win0_19.index t = ![t.val / 4, 0, t.val % 4]
    ∧ win0_20.index t = ![t.val / 4, 0, t.val % 4] :=
  (by decide +kernel : ∀ t : Fin grid0.N, _)

/-- Point `t` works on sequence `t / 4`. -/
def seq (t : Fin cfg0.N) : Fin 16 := ⟨t.val / 4, by have : t.val < 64 := t.isLt; omega⟩

/-- Channel `l` of point `t`'s block is channel `256 (t mod 4) + l`. -/
def chan (t : Fin cfg0.N) (l : Fin 256) : Fin 1024 := ⟨t.val % 4 * 256 + l.val, by omega⟩

/-- The eight columns a block computes are columns of the whole projection. -/
theorem columns (c : Dev nD) (t : Fin cfg0.N) (l : Fin 256) :
    col (iblk m c 0 t) (iblk m c 1 t) l =
        column (m ((c : Thread nD τ).loc main_arg0)) (m ((c : Thread nD τ).loc main_arg1)) (seq t) ⟨0 + (chan t l).val, by omega⟩
    ∧ col (iblk m c 0 t) (iblk m c 2 t) l =
        column (m ((c : Thread nD τ).loc main_arg0)) (m ((c : Thread nD τ).loc main_arg1)) (seq t) ⟨1024 + (chan t l).val, by omega⟩
    ∧ col (iblk m c 0 t) (iblk m c 3 t) l =
        column (m ((c : Thread nD τ).loc main_arg0)) (m ((c : Thread nD τ).loc main_arg1)) (seq t) ⟨2048 + (chan t l).val, by omega⟩
    ∧ col (iblk m c 0 t) (iblk m c 4 t) l =
        column (m ((c : Thread nD τ).loc main_arg0)) (m ((c : Thread nD τ).loc main_arg1)) (seq t) ⟨3072 + (chan t l).val, by omega⟩
    ∧ col (iblk m c 0 t) (iblk m c 5 t) l =
        column (m ((c : Thread nD τ).loc main_arg0)) (m ((c : Thread nD τ).loc main_arg1)) (seq t) ⟨4096 + (chan t l).val, by omega⟩
    ∧ col (iblk m c 0 t) (iblk m c 6 t) l =
        column (m ((c : Thread nD τ).loc main_arg0)) (m ((c : Thread nD τ).loc main_arg1)) (seq t) ⟨5120 + (chan t l).val, by omega⟩
    ∧ col (iblk m c 0 t) (iblk m c 7 t) l =
        column (m ((c : Thread nD τ).loc main_arg0)) (m ((c : Thread nD τ).loc main_arg1)) (seq t) ⟨6144 + (chan t l).val, by omega⟩
    ∧ col (iblk m c 0 t) (iblk m c 8 t) l =
        column (m ((c : Thread nD τ).loc main_arg0)) (m ((c : Thread nD τ).loc main_arg1)) (seq t) ⟨7168 + (chan t l).val, by omega⟩ := by
  refine ⟨?_, ?_, ?_, ?_, ?_, ?_, ?_, ?_⟩
  all_goals
    funext s
    simp only [col, column, chan, seq]
    blk_point [iblk, V, idx t]

/-- The taps and the bias that a block takes are those of its channels. -/
theorem weights (c : Dev nD) (t : Fin cfg0.N) (k : Fin 3) (l : Fin 256) :
    (iblk m c 9 t : FVec Ideal S3x256 .f32) (ix2 k l) = (m ((c : Thread nD τ).loc main_arg2)) (ix2 k (chan t l))
    ∧ (iblk m c 10 t : FVec Ideal S3x256 .f32) (ix2 k l) = (m ((c : Thread nD τ).loc main_arg3)) (ix2 k ⟨0 + (chan t l).val, by omega⟩)
    ∧ (iblk m c 11 t : FVec Ideal S3x256 .f32) (ix2 k l) = (m ((c : Thread nD τ).loc main_arg3)) (ix2 k ⟨1024 + (chan t l).val, by omega⟩)
    ∧ (iblk m c 12 t : FVec Ideal S3x256 .f32) (ix2 k l) = (m ((c : Thread nD τ).loc main_arg3)) (ix2 k ⟨2048 + (chan t l).val, by omega⟩)
    ∧ (iblk m c 13 t : FVec Ideal S1x256 .f32) (ix2 0 l) = (m ((c : Thread nD τ).loc main_arg4)) (ix1 ⟨0 + (chan t l).val, by omega⟩)
    ∧ (iblk m c 14 t : FVec Ideal S1x256 .f32) (ix2 0 l) = (m ((c : Thread nD τ).loc main_arg4)) (ix1 ⟨1024 + (chan t l).val, by omega⟩)
    ∧ (iblk m c 15 t : FVec Ideal S1x256 .f32) (ix2 0 l) = (m ((c : Thread nD τ).loc main_arg4)) (ix1 ⟨2048 + (chan t l).val, by omega⟩) := by
  refine ⟨?_, ?_, ?_, ?_, ?_, ?_, ?_⟩
  all_goals
    simp only [chan]
    blk_ext! [iblk, V, idx t]

/-- Result 0 is `shortConv` of the arguments. -/
theorem final16 (c : Dev nD) : (dats m 0 c).arrAt 16 (cfgs 0).N = shortConv (m ((c : Thread nD τ).loc main_arg0)) (m ((c : Thread nD τ).loc main_arg1)) (m ((c : Thread nD τ).loc main_arg2)) := by
  refine (dats m 0 c).arrAt_eq_of_covers 16 _ (by decide +kernel) fun t _ y => ?_
  blk_simp
  rw [after0_16]
  have e : ix3 (seq t) (y 1) (chan t (y 2)) = ((View.whole main_v2_0).slice (win0_16.rect t)).emb y := by
    simp only [seq, chan]
    blk_ext [idx t]
  refine (out16_at _ _ _ _ _ _ _ _ _ _ _ _ _ _ _ _ y).trans (Eq.trans ?_ (congrArg (shortConv (m ((c : Thread nD τ).loc main_arg0)) (m ((c : Thread nD τ).loc main_arg1)) (m ((c : Thread nD τ).loc main_arg2))) e))
  obtain ⟨e1, e2, e3, e4, e5, e6, e7, e8⟩ := columns m c t (y 2)
  have hw := fun k => weights m c t k (y 2)
  have prod2 : prod (iblk m c 0 t) (iblk m c 2 t) (iblk m c 3 t) (y 2) = _ :=
    funext fun s => congrArg₂ (· * ·) (congrFun e2 s) (congrFun e3 s)
  obtain ⟨-, -, -, -, b1, b2, b3⟩ := weights m c t 0 (y 2)
  simp only [shortConv, prod2, e1, e2, e3, e4, e5, e6, e7, e8, hw, b1, b2, b3, ← Nat.add_assoc, Nat.reduceAdd]
  pointwise

/-- Result 1 is `longInput` of the arguments. -/
theorem final17 (c : Dev nD) : (dats m 0 c).arrAt 17 (cfgs 0).N = longInput (m ((c : Thread nD τ).loc main_arg0)) (m ((c : Thread nD τ).loc main_arg1)) (m ((c : Thread nD τ).loc main_arg3)) (m ((c : Thread nD τ).loc main_arg4)) := by
  refine (dats m 0 c).arrAt_eq_of_covers 17 _ (by decide +kernel) fun t _ y => ?_
  blk_simp
  rw [after0_17]
  have e : ix3 (seq t) (y 1) (chan t (y 2)) = ((View.whole main_v2_1).slice (win0_17.rect t)).emb y := by
    simp only [seq, chan]
    blk_ext [idx t]
  refine (out17_at _ _ _ _ _ _ _ _ _ _ _ _ _ _ _ _ y).trans (Eq.trans ?_ (congrArg (longInput (m ((c : Thread nD τ).loc main_arg0)) (m ((c : Thread nD τ).loc main_arg1)) (m ((c : Thread nD τ).loc main_arg3)) (m ((c : Thread nD τ).loc main_arg4))) e))
  obtain ⟨e1, e2, e3, e4, e5, e6, e7, e8⟩ := columns m c t (y 2)
  have hw := fun k => weights m c t k (y 2)
  obtain ⟨-, -, -, -, b1, b2, b3⟩ := weights m c t 0 (y 2)
  simp only [longInput, hyena, hyenaColumn, e1, e2, e3, e4, e5, e6, e7, e8, hw, b1, b2, b3, ← Nat.add_assoc, Nat.reduceAdd]
  pointwise

/-- Result 2 is `longGate` of the arguments. -/
theorem final18 (c : Dev nD) : (dats m 0 c).arrAt 18 (cfgs 0).N = longGate (m ((c : Thread nD τ).loc main_arg0)) (m ((c : Thread nD τ).loc main_arg1)) (m ((c : Thread nD τ).loc main_arg3)) (m ((c : Thread nD τ).loc main_arg4)) := by
  refine (dats m 0 c).arrAt_eq_of_covers 18 _ (by decide +kernel) fun t _ y => ?_
  blk_simp
  rw [after0_18]
  have e : ix3 (seq t) (y 1) (chan t (y 2)) = ((View.whole main_v2_2).slice (win0_18.rect t)).emb y := by
    simp only [seq, chan]
    blk_ext [idx t]
  refine (out18_at _ _ _ _ _ _ _ _ _ _ _ _ _ _ _ _ y).trans (Eq.trans ?_ (congrArg (longGate (m ((c : Thread nD τ).loc main_arg0)) (m ((c : Thread nD τ).loc main_arg1)) (m ((c : Thread nD τ).loc main_arg3)) (m ((c : Thread nD τ).loc main_arg4))) e))
  obtain ⟨e1, e2, e3, e4, e5, e6, e7, e8⟩ := columns m c t (y 2)
  have hw := fun k => weights m c t k (y 2)
  obtain ⟨-, -, -, -, b1, b2, b3⟩ := weights m c t 0 (y 2)
  simp only [longGate, hyena, hyenaColumn, e1, e2, e3, e4, e5, e6, e7, e8, hw, b1, b2, b3, ← Nat.add_assoc, Nat.reduceAdd]
  pointwise

/-- Result 3 is `gateA` of the arguments. -/
theorem final19 (c : Dev nD) : (dats m 0 c).arrAt 19 (cfgs 0).N = gateA (m ((c : Thread nD τ).loc main_arg0)) (m ((c : Thread nD τ).loc main_arg1)) := by
  refine (dats m 0 c).arrAt_eq_of_covers 19 _ (by decide +kernel) fun t _ y => ?_
  blk_simp
  rw [after0_19]
  have e : ix3 (seq t) (y 1) (chan t (y 2)) = ((View.whole main_v2_3).slice (win0_19.rect t)).emb y := by
    simp only [seq, chan]
    blk_ext [idx t]
  refine (out19_at _ _ _ _ _ _ _ _ _ _ _ _ _ _ _ _ y).trans (Eq.trans ?_ (congrArg (gateA (m ((c : Thread nD τ).loc main_arg0)) (m ((c : Thread nD τ).loc main_arg1))) e))
  obtain ⟨e1, e2, e3, e4, e5, e6, e7, e8⟩ := columns m c t (y 2)
  have hw := fun k => weights m c t k (y 2)
  obtain ⟨-, -, -, -, b1, b2, b3⟩ := weights m c t 0 (y 2)
  simp only [gateA, e1, e2, e3, e4, e5, e6, e7, e8, hw, b1, b2, b3, ← Nat.add_assoc, Nat.reduceAdd]
  pointwise

/-- Result 4 is `gateH` of the arguments. -/
theorem final20 (c : Dev nD) : (dats m 0 c).arrAt 20 (cfgs 0).N = gateH (m ((c : Thread nD τ).loc main_arg0)) (m ((c : Thread nD τ).loc main_arg1)) := by
  refine (dats m 0 c).arrAt_eq_of_covers 20 _ (by decide +kernel) fun t _ y => ?_
  blk_simp
  rw [after0_20]
  have e : ix3 (seq t) (y 1) (chan t (y 2)) = ((View.whole main_v2_4).slice (win0_20.rect t)).emb y := by
    simp only [seq, chan]
    blk_ext [idx t]
  refine (out20_at _ _ _ _ _ _ _ _ _ _ _ _ _ _ _ _ y).trans (Eq.trans ?_ (congrArg (gateH (m ((c : Thread nD τ).loc main_arg0)) (m ((c : Thread nD τ).loc main_arg1))) e))
  obtain ⟨e1, e2, e3, e4, e5, e6, e7, e8⟩ := columns m c t (y 2)
  have hw := fun k => weights m c t k (y 2)
  obtain ⟨-, -, -, -, b1, b2, b3⟩ := weights m c t 0 (y 2)
  simp only [gateH, e1, e2, e3, e4, e5, e6, e7, e8, hw, b1, b2, b3, ← Nat.add_assoc, Nat.reduceAdd]
  pointwise

end Cert.InprojIdeal.Value

end
-- ==== Proof.InprojRef.lean ====
module

public import proofs.«01_k».proof.Proof.Gen.InprojRefIdeal.Read
public import proofs.«01_k».proof.Proof.InprojValue

@[expose] public section

/-! The reference of the input projection computes the same functions of its arguments. -/

set_option maxRecDepth 16384

noncomputable section

open Idealize.ShloMosaic Idealize.ShloMosaic.TcCoe Idealize.SL.Sem Cert.Rows

namespace Cert.InprojRefIdeal.Same

open Cert.InprojRefIdeal Cert.InprojRefIdeal.Gen Cert.InprojRefIdeal.Read
open Cert.InprojIdeal.Value (column hyenaColumn shortConv longInput longGate gateA gateH)

variable (x0 : FVec Ideal S16x4096x1024 .bf16) (x1 : FVec Ideal S1024x8192 .f32) (x2 : FVec Ideal S3x1024 .f32)
  (x3 : FVec Ideal S3x3072 .f32) (x4 : FVec Ideal S3072 .f32)

/-- The padding value, the integer zero read as a real, is zero. -/
theorem pad_zero : (FloatOps.sitofp FTy.f32 0#32 : Ideal .f32) = 0 := by
  simp [FloatOps.sitofp]

/-- Which positions of the padded array lie inside the original one. -/
theorem inside (s : Fin 4096) (l : Fin 1024) : ((l.val < 3072) = True) ∧ ((1024 + l.val < 3072) = True)
    ∧ ((2048 + l.val < 3072) = True) ∧ ((l.val < 1024) = True) ∧ ((1 ≤ s.val ∧ s.val - 1 < 4096) = (1 ≤ s.val))
    ∧ ((1 ≤ 2 + s.val ∧ 2 + s.val - 1 < 4096) = (s.val + 1 < 4096)) := by
  simp only [eq_iff_iff, iff_true]
  omega

set_option maxHeartbeats 1600000 in
/-- Result 0 of the reference. -/
theorem res0 : val_main_v66 (F := Ideal) x0 x1 x2 = shortConv x0 x1 x2 := by
  funext i
  idx_vars i
  pointwise [val_main_v0, val_main_v1, val_main_v2, val_main_v3, val_main_v4, val_main_v5, val_main_v6, val_main_v7,
    val_main_c, val_main_call0_v0, val_main_v8, val_main_v9, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_c_0, val_main_call1_v0, val_main_v30, val_main_v31, val_main_v32, val_main_v33, val_main_v34, val_main_v35,
    val_main_v36, val_main_v37, val_main_v38, val_main_v39, val_main_v40, val_main_v41, val_main_v42, val_main_v43,
    val_main_v44, val_main_v45, val_main_v46, val_main_v47, val_main_v48, val_main_v49, val_main_v50, val_main_v51,
    val_main_v52, val_main_v53, val_main_v54, val_main_v55, val_main_v56, val_main_v57, val_main_v58, val_main_v59,
    val_main_cst, val_main_v60, val_main_v61, val_main_cst_1, val_main_v62, val_main_v63, val_main_v64, val_main_v65,
    val_main_v66, val_main_v67, val_main_v68, val_main_v69, val_main_v70]
  pointwise [shortConv, taps, prev, next, column]
  obtain ⟨q0, q1, q2, q3, r1, r2⟩ := inside i1 i2
  simp only [pad_zero, q0, q1, q2, q3, r1, r2, and_true, ↓reduceDIte]
  blk_point []

set_option maxHeartbeats 1600000 in
/-- Result 1 of the reference. -/
theorem res1 : val_main_v67 (F := Ideal) x0 x1 x3 x4 = longInput x0 x1 x3 x4 := by
  funext i
  idx_vars i
  pointwise [val_main_v0, val_main_v1, val_main_v2, val_main_v3, val_main_v4, val_main_v5, val_main_v6, val_main_v7,
    val_main_c, val_main_call0_v0, val_main_v8, val_main_v9, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_c_0, val_main_call1_v0, val_main_v30, val_main_v31, val_main_v32, val_main_v33, val_main_v34, val_main_v35,
    val_main_v36, val_main_v37, val_main_v38, val_main_v39, val_main_v40, val_main_v41, val_main_v42, val_main_v43,
    val_main_v44, val_main_v45, val_main_v46, val_main_v47, val_main_v48, val_main_v49, val_main_v50, val_main_v51,
    val_main_v52, val_main_v53, val_main_v54, val_main_v55, val_main_v56, val_main_v57, val_main_v58, val_main_v59,
    val_main_cst, val_main_v60, val_main_v61, val_main_cst_1, val_main_v62, val_main_v63, val_main_v64, val_main_v65,
    val_main_v66, val_main_v67, val_main_v68, val_main_v69, val_main_v70]
  pointwise [longInput, hyenaColumn, taps, prev, next, column]
  obtain ⟨q0, q1, q2, q3, r1, r2⟩ := inside i1 i2
  simp only [pad_zero, q0, q1, q2, q3, r1, r2, and_true, ↓reduceDIte]
  blk_point []

set_option maxHeartbeats 1600000 in
/-- Result 2 of the reference. -/
theorem res2 : val_main_v68 (F := Ideal) x0 x1 x3 x4 = longGate x0 x1 x3 x4 := by
  funext i
  idx_vars i
  pointwise [val_main_v0, val_main_v1, val_main_v2, val_main_v3, val_main_v4, val_main_v5, val_main_v6, val_main_v7,
    val_main_c, val_main_call0_v0, val_main_v8, val_main_v9, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_c_0, val_main_call1_v0, val_main_v30, val_main_v31, val_main_v32, val_main_v33, val_main_v34, val_main_v35,
    val_main_v36, val_main_v37, val_main_v38, val_main_v39, val_main_v40, val_main_v41, val_main_v42, val_main_v43,
    val_main_v44, val_main_v45, val_main_v46, val_main_v47, val_main_v48, val_main_v49, val_main_v50, val_main_v51,
    val_main_v52, val_main_v53, val_main_v54, val_main_v55, val_main_v56, val_main_v57, val_main_v58, val_main_v59,
    val_main_cst, val_main_v60, val_main_v61, val_main_cst_1, val_main_v62, val_main_v63, val_main_v64, val_main_v65,
    val_main_v66, val_main_v67, val_main_v68, val_main_v69, val_main_v70]
  pointwise [longGate, hyenaColumn, taps, prev, next, column]
  obtain ⟨q0, q1, q2, q3, r1, r2⟩ := inside i1 i2
  simp only [pad_zero, q0, q1, q2, q3, r1, r2, and_true, ↓reduceDIte]
  blk_point []

/-- Result 3 of the reference. -/
theorem res3 : val_main_v69 (F := Ideal) x0 x1 = gateA x0 x1 := by
  funext i
  idx_vars i
  pointwise [val_main_v0, val_main_v1, val_main_v2, val_main_v3, val_main_v4, val_main_v5, val_main_v6, val_main_v7,
    val_main_c, val_main_call0_v0, val_main_v8, val_main_v9, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_c_0, val_main_call1_v0, val_main_v30, val_main_v31, val_main_v32, val_main_v33, val_main_v34, val_main_v35,
    val_main_v36, val_main_v37, val_main_v38, val_main_v39, val_main_v40, val_main_v41, val_main_v42, val_main_v43,
    val_main_v44, val_main_v45, val_main_v46, val_main_v47, val_main_v48, val_main_v49, val_main_v50, val_main_v51,
    val_main_v52, val_main_v53, val_main_v54, val_main_v55, val_main_v56, val_main_v57, val_main_v58, val_main_v59,
    val_main_cst, val_main_v60, val_main_v61, val_main_cst_1, val_main_v62, val_main_v63, val_main_v64, val_main_v65,
    val_main_v66, val_main_v67, val_main_v68, val_main_v69, val_main_v70]
  pointwise [gateA, column, Ideal.logistic]

/-- Result 4 of the reference. -/
theorem res4 : val_main_v70 (F := Ideal) x0 x1 = gateH x0 x1 := by
  funext i
  idx_vars i
  pointwise [val_main_v0, val_main_v1, val_main_v2, val_main_v3, val_main_v4, val_main_v5, val_main_v6, val_main_v7,
    val_main_c, val_main_call0_v0, val_main_v8, val_main_v9, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_c_0, val_main_call1_v0, val_main_v30, val_main_v31, val_main_v32, val_main_v33, val_main_v34, val_main_v35,
    val_main_v36, val_main_v37, val_main_v38, val_main_v39, val_main_v40, val_main_v41, val_main_v42, val_main_v43,
    val_main_v44, val_main_v45, val_main_v46, val_main_v47, val_main_v48, val_main_v49, val_main_v50, val_main_v51,
    val_main_v52, val_main_v53, val_main_v54, val_main_v55, val_main_v56, val_main_v57, val_main_v58, val_main_v59,
    val_main_cst, val_main_v60, val_main_v61, val_main_cst_1, val_main_v62, val_main_v63, val_main_v64, val_main_v65,
    val_main_v66, val_main_v67, val_main_v68, val_main_v69, val_main_v70]
  pointwise [gateH, column, Ideal.logistic]
  blk_point []

end Cert.InprojRefIdeal.Same

end
-- ==== Proof.InprojClaims.lean ====
module

public import proofs.«01_k».proof.Defs
public import proofs.«01_k».proof.Proof.Gen.Inproj.Frame
public import proofs.«01_k».proof.Proof.InprojRef
public import Idealize.ShloMosaic.Lib.Claim
public import Idealize.ShloMosaic.Lib.Quiescent

@[expose] public section

/-! The claims about the input projection kernel. -/

set_option maxRecDepth 16384

noncomputable section

open Idealize.ShloMosaic Idealize.ShloMosaic.TcCoe Idealize.SL.Sem

namespace Cert.InprojClaims

/-- The kernel runs to the end and leaves its arguments alone. -/
theorem frame : Cert.quiescent_Inproj := fun m ρ _ => Cert.Inproj.Gen.frame m ρ

/-- So does the kernel over the reals. -/
theorem frameIdeal : Cert.quiescent_InprojIdeal := fun m ρ _ => Cert.InprojIdeal.Gen.frame m ρ

/-- The reference runs to the end and leaves its arguments alone. -/
theorem frameRef : Cert.quiescent_InprojRefIdeal := fun m ρ _ =>
  (θ_run Cert.InprojRefIdeal.defs _ _).mono (fun r h => ⟨fun c => (h c).2.2.2.2.2, sem_eq_zero_of_no_sems (by decide) r.2⟩)
    (Cert.InprojRefIdeal.Value.run (F := Ideal) m ρ)

/-- No constant needs a name. -/
theorem preserves : Cert.preserves_Inproj_InprojIdeal := trivial

set_option maxHeartbeats 1600000 in
/-- Over the reals all five results of the kernel are those of the reference. -/
theorem algebraic : Cert.algebraic_InprojIdeal_InprojRefIdeal := by
  intro m g m' g' _ hagree
  refine ⟨fun c => (Cert.InprojIdeal.Gen.dats m 0 c).arrAt 16 (Cert.InprojIdeal.cfgs 0).N,
    fun c => (Cert.InprojIdeal.Gen.dats m 0 c).arrAt 17 (Cert.InprojIdeal.cfgs 0).N,
    fun c => (Cert.InprojIdeal.Gen.dats m 0 c).arrAt 18 (Cert.InprojIdeal.cfgs 0).N,
    fun c => (Cert.InprojIdeal.Gen.dats m 0 c).arrAt 19 (Cert.InprojIdeal.cfgs 0).N,
    fun c => (Cert.InprojIdeal.Gen.dats m 0 c).arrAt 20 (Cert.InprojIdeal.cfgs 0).N, ?_, ?_⟩
  · run_from Cert.InprojIdeal.Gen.run_main m g
    · rename_i hc
      exact hc.1 16
    · rename_i hc
      exact hc.1 17
    · rename_i hc
      exact hc.1 18
    · rename_i hc
      exact hc.1 19
    · rename_i hc
      exact hc.1 20
  · run_from Cert.InprojRefIdeal.Value.run m' g'
    · refine ((Cert.InprojRefIdeal.Read.val_main_v66_eq ..).trans (Cert.InprojRefIdeal.Same.res0 ..)).trans ?_
      exact (Cert.InprojIdeal.Value.final16 m c).symm
    · refine ((Cert.InprojRefIdeal.Read.val_main_v67_eq m' c).trans (Cert.InprojRefIdeal.Same.res1 ..)).trans ?_
      obtain ⟨h0, h1, h2, h3, h4⟩ := hagree c
      rw [h0, h1, h3, h4]
      exact (Cert.InprojIdeal.Value.final17 m c).symm
    · refine ((Cert.InprojRefIdeal.Read.val_main_v68_eq ..).trans (Cert.InprojRefIdeal.Same.res2 ..)).trans ?_
      exact (Cert.InprojIdeal.Value.final18 m c).symm
    · refine ((Cert.InprojRefIdeal.Read.val_main_v69_eq ..).trans (Cert.InprojRefIdeal.Same.res3 ..)).trans ?_
      exact (Cert.InprojIdeal.Value.final19 m c).symm
    · refine ((Cert.InprojRefIdeal.Read.val_main_v70_eq ..).trans (Cert.InprojRefIdeal.Same.res4 ..)).trans ?_
      exact (Cert.InprojIdeal.Value.final20 m c).symm

end Cert.InprojClaims

end
-- ==== Proof.Rows.lean ====
module

public import Idealize.ShloMosaic.Lib.Pointwise

@[expose] public section

/-! Row by row over the extended reals: the layer norm and the merge of the two branches, as functions of the rows. -/

noncomputable section

open Idealize.ShloMosaic

namespace Cert.Rows

/-- The mean of a row of 1024 entries. -/
def mean (x : Fin 1024 → EReal) : EReal := Ideal.div (∑ k, x k) (Ideal.ofBits .f32 0x44800000#32)

/-- The layer norm of the row `x` with gain `g` and offset `b`, at lane `l`; its epsilon is 1/100000. -/
def layerNorm (x g b : Fin 1024 → EReal) (l : Fin 1024) : EReal :=
  (x l - mean x) * Ideal.rsqrt (mean (fun k => (x k - mean x) * (x k - mean x)) + ((1 / 100000 : ℝ) : EReal)) * g l + b l

/-- The product of the row `x` with the matrix `w`, at column `l`. -/
def vecMul {n p : ℕ} (x : Fin n → EReal) (w : Fin n → Fin p → EReal) (l : Fin p) : EReal := ∑ k, x k * w k l

/-- The residual row `√2 · h` plus the merged branches `g_a (y_a W_a) + g_h (y_h W_h)` times `W_o`, at lane `l`. -/
def mixRow (ya yh ga gh h : Fin 1024 → EReal) (wa wh wo : Fin 1024 → Fin 1024 → EReal) (l : Fin 1024) : EReal :=
  ((Real.sqrt 2 : ℝ) : EReal) * h l + vecMul (fun k => vecMul ya wa k * ga k + vecMul yh wh k * gh k) wo l

/-- Hidden unit `j` of the gated network: `(x W₁)ⱼ · σ((x W₁)ⱼ) · (x W₃)ⱼ`. -/
def gated {p : ℕ} (x : Fin 1024 → EReal) (w1 w3 : Fin 1024 → Fin p → EReal) (j : Fin p) : EReal :=
  vecMul x w1 j * Ideal.logistic (vecMul x w1 j) * vecMul x w3 j

/-- The gated network: its hidden row times `W₂`, at lane `l`. -/
def swiglu {p : ℕ} (x : Fin 1024 → EReal) (w1 w3 : Fin 1024 → Fin p → EReal) (w2 : Fin p → Fin 1024 → EReal) (l : Fin 1024) : EReal :=
  ∑ j, gated x w1 w3 j * w2 j l

end Cert.Rows

end
-- ==== Proof.MixoutTiles.lean ====
module

public import proofs.«01_k».proof.Proof.Gen.MixoutIdeal.Frame
public import proofs.«01_k».proof.Proof.Rows
public import Idealize.ShloMosaic.Lib.Pipeline.ValueKit

@[expose] public section

/-! The output block of one grid point of the mixout kernel, read row by row. -/

set_option maxRecDepth 16384

noncomputable section

open Idealize.ShloMosaic Idealize.ShloMosaic.TcCoe Idealize.SL.Sem Cert.Rows

namespace Cert.MixoutIdeal.Value

open Cert.MixoutIdeal Cert.MixoutIdeal.Gen

/-- The constant named alpha is the square root of two. -/
theorem alpha : Named.named (F := Ideal) κ "alpha" (φ := .f32) 0x3FB504F3#32 = ((Real.sqrt 2 : ℝ) : EReal) :=
  IdealRules.named_const.ideal_named_scalar _ _ _ _ rfl

/-- The constant named ln_eps is 1/100000. -/
theorem lnEps : Named.named (F := Ideal) κ "ln_eps" (φ := .f32) 0x3727C5AC#32 = ((1 / 100000 : ℝ) : EReal) :=
  IdealRules.named_const.ideal_named_scalar _ _ _ _ rfl

/-- Row `r` of the float32 output block is the layer norm of the merged row `r` of the input blocks. -/
theorem out10_at (x0 x1 x2 x3 : Vec Ideal S1024x1024 .bf16) (x4 : Vec Ideal S1024x1024 .f32) (x5 x6 x7 : Vec Ideal S1024x1024 .bf16)
    (x8 x9 : Vec Ideal S1x1024 .f32) (y : S1024x1024.Idx) :
    out0_10 x0 x1 x2 x3 x4 x5 x6 x7 x8 x9 y
    = layerNorm (mixRow (fun k => x0 (ix2 (y 0) k)) (fun k => x1 (ix2 (y 0) k)) (fun k => x2 (ix2 (y 0) k)) (fun k => x3 (ix2 (y 0) k))
        (fun k => x4 (ix2 (y 0) k)) (fun k l => x5 (ix2 k l)) (fun k l => x6 (ix2 k l)) (fun k l => x7 (ix2 k l)))
        (fun k => x8 (ix2 0 k)) (fun k => x9 (ix2 0 k)) (y 1) := by
  unfold out0_10
  canon_tiles x h
  case piece0 => pointwise [k0_pay1, k0_pay30, k0_pay19, alpha, lnEps, layerNorm, mixRow, vecMul, mean]; blk_point []
  case piece1 =>
    pointwise [k0_pay17, k0_pay26, k0_pay27, k0_pay28, k0_pay29, k0_pay25, k0_pay12, k0_pay13, k0_pay14, k0_pay15, k0_pay16,
      alpha, lnEps, layerNorm, mixRow, vecMul, mean]
    blk_point []
  case piece2 =>
    pointwise [k0_pay10, k0_pay23, k0_pay24, k0_pay8, k0_pay9, alpha, lnEps, layerNorm, mixRow, vecMul, mean]
    blk_point []
  case piece3 =>
    pointwise [k0_pay6, k0_pay20, k0_pay21, k0_pay22, k0_pay3, k0_pay4, k0_pay5, alpha, lnEps, layerNorm, mixRow, vecMul, mean]
    blk_point []

/-- The bfloat16 output block holds the same values. -/
theorem out11_at (x0 x1 x2 x3 : Vec Ideal S1024x1024 .bf16) (x4 : Vec Ideal S1024x1024 .f32) (x5 x6 x7 : Vec Ideal S1024x1024 .bf16)
    (x8 x9 : Vec Ideal S1x1024 .f32) (y : S1024x1024.Idx) :
    out0_11 x0 x1 x2 x3 x4 x5 x6 x7 x8 x9 y
    = layerNorm (mixRow (fun k => x0 (ix2 (y 0) k)) (fun k => x1 (ix2 (y 0) k)) (fun k => x2 (ix2 (y 0) k)) (fun k => x3 (ix2 (y 0) k))
        (fun k => x4 (ix2 (y 0) k)) (fun k l => x5 (ix2 k l)) (fun k l => x6 (ix2 k l)) (fun k l => x7 (ix2 k l)))
        (fun k => x8 (ix2 0 k)) (fun k => x9 (ix2 0 k)) (y 1) := by
  unfold out0_11
  canon_tiles x h
  case piece0 => pointwise [k0_pay2, k0_pay1, k0_pay30, k0_pay19, alpha, lnEps, layerNorm, mixRow, vecMul, mean]; blk_point []
  case piece1 =>
    pointwise [k0_pay18, k0_pay17, k0_pay26, k0_pay27, k0_pay28, k0_pay29, k0_pay25, k0_pay12, k0_pay13, k0_pay14, k0_pay15,
      k0_pay16, alpha, lnEps, layerNorm, mixRow, vecMul, mean]
    blk_point []
  case piece2 =>
    pointwise [k0_pay11, k0_pay10, k0_pay23, k0_pay24, k0_pay8, k0_pay9, alpha, lnEps, layerNorm, mixRow, vecMul, mean]
    blk_point []
  case piece3 =>
    pointwise [k0_pay7, k0_pay6, k0_pay20, k0_pay21, k0_pay22, k0_pay3, k0_pay4, k0_pay5, alpha, lnEps, layerNorm, mixRow,
      vecMul, mean]
    blk_point []

end Cert.MixoutIdeal.Value

end
-- ==== Proof.MixoutValue.lean ====
module

public import proofs.«01_k».proof.Proof.Gen.MixoutIdeal.Value
public import proofs.«01_k».proof.Proof.MixoutTiles

@[expose] public section

/-! The two result arrays of the mixout kernel, as functions of its argument arrays. -/

set_option maxRecDepth 16384

noncomputable section

open Idealize.ShloMosaic Idealize.ShloMosaic.TcCoe Idealize.SL.Sem Cert.Rows
open Idealize.ShloMosaic.Pipeline (Dat)

namespace Cert.MixoutIdeal.Value

open Cert.MixoutIdeal Cert.MixoutIdeal.Gen

variable (m : (ℓ : Loc nD τ sig) → Buf (Elt Ideal) ℓ)

/-- The normed merge of the branches over whole arrays: entry `i` is lane `i 1` of the layer norm of the merged row `i 0`. -/
def mixed (ya yh ga gh : FVec Ideal S65536x1024 .bf16) (h : FVec Ideal S65536x1024 .f32) (wa wh wo : FVec Ideal S1024x1024 .f32)
    (g b : FVec Ideal S1024 .f32) : S65536x1024.Idx → EReal := fun i =>
  layerNorm (mixRow (fun k => ya (ix2 (i 0) k)) (fun k => yh (ix2 (i 0) k)) (fun k => ga (ix2 (i 0) k)) (fun k => gh (ix2 (i 0) k))
    (fun k => h (ix2 (i 0) k)) (fun k l => wa (ix2 k l)) (fun k l => wh (ix2 k l)) (fun k l => wo (ix2 k l)))
    (fun k => g (ix1 k)) (fun k => b (ix1 k)) (i 1)

/-- `mixed` of the argument arrays of device `c`. -/
abbrev mixedOf (c : Dev nD) : S65536x1024.Idx → EReal :=
  mixed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- Where each window's block lies: point `t` takes rows `1024 t` to `1024 t + 1023`, and the weights whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] :=
  (by decide +kernel : ∀ t : Fin grid0.N, _)

/-- The float32 result is `mixed` of the arguments. -/
theorem final10 (c : Dev nD) : (dats m 0 c).arrAt 10 (cfgs 0).N = mixedOf m c := by
  refine (dats m 0 c).arrAt_eq_of_covers 10 _ (by decide +kernel) fun t _ y => ?_
  blk_simp
  rw [after0_10]
  refine (out10_at _ _ _ _ _ _ _ _ _ _ y).trans ?_
  simp only [mixedOf, mixed, layerNorm, mixRow, vecMul, mean]
  blk_point [iblk, V, idx t]

/-- The bfloat16 result is `mixed` of the arguments. -/
theorem final11 (c : Dev nD) : (dats m 0 c).arrAt 11 (cfgs 0).N = mixedOf m c := by
  refine (dats m 0 c).arrAt_eq_of_covers 11 _ (by decide +kernel) fun t _ y => ?_
  blk_simp
  rw [after0_11]
  refine (out11_at _ _ _ _ _ _ _ _ _ _ y).trans ?_
  simp only [mixedOf, mixed, layerNorm, mixRow, vecMul, mean]
  blk_point [iblk, V, idx t]

end Cert.MixoutIdeal.Value

end
-- ==== Proof.Consts.lean ====
module

public import Idealize.ShloMosaic.PureOps.Ideal

@[expose] public section

/-! The constants of the references, as real numbers. -/

noncomputable section

open Idealize.ShloMosaic

namespace Cert.Consts

/-- The word of 4.0 denotes the real 4. -/
theorem four : Ideal.ofBits .f32 0x40800000#32 = ((4 : ℝ) : EReal) := by
  simp [Ideal.ofBits, Ideal.ieee, -EReal.coe_mul]; norm_num

/-- The word of 100000.0 denotes the real 100000. -/
theorem hundredThousand : Ideal.ofBits .f32 0x47C35000#32 = ((100000 : ℝ) : EReal) := by
  simp [Ideal.ofBits, Ideal.ieee, -EReal.coe_mul]; norm_num

/-- The root of the root of 4 is the root of 2. -/
theorem rootFour : Ideal.sqrt (Ideal.sqrt (Ideal.ofBits .f32 0x40800000#32)) = ((Real.sqrt 2 : ℝ) : EReal) := by
  have h : Real.sqrt 4 = 2 := by
    rw [show (4 : ℝ) = 2 ^ 2 by norm_num]
    exact Real.sqrt_sq (by norm_num)
  rw [four, Ideal.sqrt_coe, if_neg (by norm_num), h, Ideal.sqrt_coe, if_neg (by norm_num)]

/-- One over 100000, divided out, is the real 1/100000. -/
theorem epsilon : Ideal.div 1 (Ideal.ofBits .f32 0x47C35000#32) = ((1 / 100000 : ℝ) : EReal) := by
  rw [hundredThousand, Ideal.div_coe (by norm_num), one_mul]

end Cert.Consts

end
-- ==== Proof.MixoutRef.lean ====
module

public import proofs.«01_k».proof.Proof.Gen.MixoutRefIdeal.Read
public import proofs.«01_k».proof.Proof.MixoutValue
public import proofs.«01_k».proof.Proof.Consts

@[expose] public section

/-! The reference of the mixout kernel computes the same function of its arguments. -/

set_option maxRecDepth 16384

noncomputable section

open Idealize.ShloMosaic Idealize.ShloMosaic.TcCoe Idealize.SL.Sem Cert.Rows

namespace Cert.MixoutRefIdeal.Same

open Cert.MixoutRefIdeal Cert.MixoutRefIdeal.Gen

open Cert.MixoutRefIdeal.Read

/-- The reference's float32 result is the normed merge of its arguments. -/
theorem res0 (x0 x1 x2 x3 : FVec Ideal S65536x1024 .bf16) (x4 : FVec Ideal S65536x1024 .f32) (x5 x6 x7 : FVec Ideal S1024x1024 .f32)
    (x8 x9 : FVec Ideal S1024 .f32) :
    val_main_v39 (F := Ideal) x0 x1 x2 x3 x4 x5 x6 x7 x8 x9 = Cert.MixoutIdeal.Value.mixed x0 x1 x2 x3 x4 x5 x6 x7 x8 x9 := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst, val_main_cst_0, val_main_cst_1, val_main_cst_2, val_main_cst_3, val_main_cst_4, val_main_cst_5]
  simp only [Cert.Consts.rootFour, Cert.Consts.epsilon]
  pointwise [Cert.MixoutIdeal.Value.mixed, layerNorm, mixRow, vecMul, mean]
  blk_point []

/-- The reference's bfloat16 result is its float32 result: over the reals the cast is the identity. -/
theorem res1 (x0 x1 x2 x3 : FVec Ideal S65536x1024 .bf16) (x4 : FVec Ideal S65536x1024 .f32) (x5 x6 x7 : FVec Ideal S1024x1024 .f32)
    (x8 x9 : FVec Ideal S1024 .f32) :
    val_main_v40 (F := Ideal) x0 x1 x2 x3 x4 x5 x6 x7 x8 x9 = Cert.MixoutIdeal.Value.mixed x0 x1 x2 x3 x4 x5 x6 x7 x8 x9 := by
  rw [← res0]; rfl

end Cert.MixoutRefIdeal.Same

end
-- ==== Proof.MixoutClaims.lean ====
module

public import proofs.«01_k».proof.Defs
public import proofs.«01_k».proof.Proof.Gen.Mixout.Frame
public import proofs.«01_k».proof.Proof.MixoutRef
public import Idealize.ShloMosaic.Lib.Claim
public import Idealize.ShloMosaic.Lib.Quiescent

@[expose] public section

/-! The claims about the mixout kernel. -/

set_option maxRecDepth 16384

noncomputable section

open Idealize.ShloMosaic Idealize.ShloMosaic.TcCoe Idealize.SL.Sem

namespace Cert.MixoutClaims

/-- The kernel runs to the end and leaves its arguments alone. -/
theorem frame : Cert.quiescent_Mixout := fun m ρ _ => Cert.Mixout.Gen.frame m ρ

/-- So does the kernel over the reals. -/
theorem frameIdeal : Cert.quiescent_MixoutIdeal := fun m ρ _ => Cert.MixoutIdeal.Gen.frame m ρ

/-- The reference runs to the end and leaves its arguments alone. -/
theorem frameRef : Cert.quiescent_MixoutRefIdeal := fun m ρ _ =>
  (θ_run Cert.MixoutRefIdeal.defs _ _).mono (fun r h => ⟨fun c => (h c).2.2, sem_eq_zero_of_no_sems (by decide) r.2⟩)
    (Cert.MixoutRefIdeal.Value.run (F := Ideal) m ρ)

/-- The two named constants: the words `√2` and `1/100000` stand for. -/
theorem preserves : Cert.preserves_Mixout_MixoutIdeal :=
  ⟨IdealRules.named_const.statement _ _ _ _ _ rfl, IdealRules.named_const.statement _ _ _ _ _ rfl⟩

set_option maxHeartbeats 1600000 in
/-- Over the reals both results of the kernel are those of the reference. -/
theorem algebraic : Cert.algebraic_MixoutIdeal_MixoutRefIdeal := by
  pair_intro
  · run_from Cert.MixoutIdeal.Gen.run_main m g
  · run_from Cert.MixoutRefIdeal.Value.run m' g'
    · refine ((Cert.MixoutRefIdeal.Read.val_main_v39_eq m' c).trans (Cert.MixoutRefIdeal.Same.res0 ..)).trans ?_
      obtain ⟨h0, h1, h2, h3, h4, h5, h6, h7, h8, h9⟩ := hagree c
      rw [h0, h1, h2, h3, h4, h5, h6, h7, h8, h9]
      exact (Cert.MixoutIdeal.Value.final10 m c).symm
    · refine ((Cert.MixoutRefIdeal.Read.val_main_v40_eq m' c).trans (Cert.MixoutRefIdeal.Same.res1 ..)).trans ?_
      obtain ⟨h0, h1, h2, h3, h4, h5, h6, h7, h8, h9⟩ := hagree c
      rw [h0, h1, h2, h3, h4, h5, h6, h7, h8, h9]
      exact (Cert.MixoutIdeal.Value.final11 m c).symm

end Cert.MixoutClaims

end
-- ==== Proof.Tiles.lean ====
module

public import Idealize.ShloMosaic.Lib.Pointwise

@[expose] public section

/-! Long sums in the runs that the kernels accumulate. -/

noncomputable section

namespace Cert.Rows

/-- A sum of eleven. -/
theorem eleven (g : Fin 11 → EReal) : ∑ j, g j = g 0 + g 1 + g 2 + g 3 + g 4 + g 5 + g 6 + g 7 + g 8 + g 9 + g 10 := by
  simp only [Fin.sum_univ_castSucc, Fin.sum_univ_zero, zero_add]; rfl

/-- A sum of seven. -/
theorem seven (g : Fin 7 → EReal) : ∑ j, g j = g 0 + g 1 + g 2 + g 3 + g 4 + g 5 + g 6 := by
  simp only [Fin.sum_univ_castSucc, Fin.sum_univ_zero, zero_add]; rfl

/-- A sum over 2816 indices, taken in 11 runs of 256 that follow one another. -/
theorem sum_eleven (f : Fin 2816 → EReal) : ∑ j, f j =
    (∑ k : Fin 256, f ⟨k, by omega⟩) + (∑ k : Fin 256, f ⟨256 + k, by omega⟩) +
    (∑ k : Fin 256, f ⟨512 + k, by omega⟩) + (∑ k : Fin 256, f ⟨768 + k, by omega⟩) +
    (∑ k : Fin 256, f ⟨1024 + k, by omega⟩) + (∑ k : Fin 256, f ⟨1280 + k, by omega⟩) +
    (∑ k : Fin 256, f ⟨1536 + k, by omega⟩) + (∑ k : Fin 256, f ⟨1792 + k, by omega⟩) +
    (∑ k : Fin 256, f ⟨2048 + k, by omega⟩) + (∑ k : Fin 256, f ⟨2304 + k, by omega⟩) +
    (∑ k : Fin 256, f ⟨2560 + k, by omega⟩) := by
  rw [Idealize.ShloMosaic.Fin.sum_univ_tiles 11 256 rfl, eleven]
  rfl

/-- A sum over 3584 indices, taken in 7 runs of 512 that follow one another. -/
theorem sum_seven (f : Fin 3584 → EReal) : ∑ j, f j =
    (∑ k : Fin 512, f ⟨k, by omega⟩) + (∑ k : Fin 512, f ⟨512 + k, by omega⟩) +
    (∑ k : Fin 512, f ⟨1024 + k, by omega⟩) + (∑ k : Fin 512, f ⟨1536 + k, by omega⟩) +
    (∑ k : Fin 512, f ⟨2048 + k, by omega⟩) + (∑ k : Fin 512, f ⟨2560 + k, by omega⟩) +
    (∑ k : Fin 512, f ⟨3072 + k, by omega⟩) := by
  rw [Idealize.ShloMosaic.Fin.sum_univ_tiles 7 512 rfl, seven]
  rfl

end Cert.Rows

end
-- ==== Proof.FfnTiles.lean ====
module

public import proofs.«01_k».proof.Proof.Gen.FfnIdeal.Value
public import proofs.«01_k».proof.Proof.Rows
public import proofs.«01_k».proof.Proof.Tiles
public import Idealize.ShloMosaic.Lib.Pipeline.ValueKit

@[expose] public section

/-! The output block of one grid point of the dense feed-forward kernel, read row by row. -/

set_option maxRecDepth 16384

noncomputable section

open Idealize.ShloMosaic Idealize.ShloMosaic.TcCoe Idealize.SL.Sem Cert.Rows
open Idealize.ShloMosaic.Pipeline (Dat)

namespace Cert.FfnIdeal.Value

open Cert.FfnIdeal Cert.FfnIdeal.Gen

/-- The constant named alpha is the square root of two. -/
theorem alpha : Named.named (F := Ideal) κ "alpha" (φ := .f32) 0x3FB504F3#32 = ((Real.sqrt 2 : ℝ) : EReal) :=
  IdealRules.named_const.ideal_named_scalar _ _ _ _ rfl

/-- The constant named ln_eps is 1/100000. -/
theorem lnEps : Named.named (F := Ideal) κ "ln_eps" (φ := .f32) 0x3727C5AC#32 = ((1 / 100000 : ℝ) : EReal) :=
  IdealRules.named_const.ideal_named_scalar _ _ _ _ rfl

variable (m : (ℓ : Loc nD τ sig) → Buf (Elt Ideal) ℓ)

/-- The layer norm of the residual row plus the accumulated row. -/
theorem norm_at (s a : FVec Ideal S1024x1024 .f32) (g b : FVec Ideal S1x1024 .f32) (y : S1024x1024.Idx) :
    k0_pay1 s a g b y = layerNorm (fun k => s (ix2 (y 0) k) + a (ix2 (y 0) k)) (fun k => g (ix2 0 k)) (fun k => b (ix2 0 k)) (y 1) := by
  pointwise [k0_pay1, lnEps, layerNorm, mean]

/-- Row `r` of the point's float32 output block: the layer norm of `√2 h` plus the gated network of the row. -/
theorem out7_at (c : Dev nD) (t : Fin cfg0.N) (y : S1024x1024.Idx) : (outsAt0 m c t).1 y =
    layerNorm (fun k => ((Real.sqrt 2 : ℝ) : EReal) * (show FVec Ideal S1024x1024 .f32 from iblk m c 1 t) (ix2 (y 0) k)
        + swiglu (fun k => (show FVec Ideal S1024x1024 .bf16 from iblk m c 0 t) (ix2 (y 0) k))
          (fun k l => (show FVec Ideal S1024x2816 .bf16 from iblk m c 2 t) (ix2 k l))
          (fun k l => (show FVec Ideal S1024x2816 .bf16 from iblk m c 3 t) (ix2 k l))
          (fun k l => (show FVec Ideal S2816x1024 .bf16 from iblk m c 4 t) (ix2 k l)) k)
      (fun k => (show FVec Ideal S1x1024 .f32 from iblk m c 5 t) (ix2 0 k))
      (fun k => (show FVec Ideal S1x1024 .f32 from iblk m c 6 t) (ix2 0 k)) (y 1) := by
  unfold outsAt0
  frame_out
  refine (norm_at ..).trans (congrFun (congrArg (layerNorm · _ _) (funext fun k => ?_)) _)
  rw [swiglu, sum_eleven]
  pointwise [k0_pay3, k0_pay4, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, alpha]
  simp only [gated, vecMul]

/-- The bfloat16 output block holds the same values. -/
theorem out8_at (c : Dev nD) (t : Fin cfg0.N) (y : S1024x1024.Idx) : (outsAt0 m c t).2 y = (outsAt0 m c t).1 y := by
  unfold outsAt0
  frame_out
  pointwise [k0_pay2]

end Cert.FfnIdeal.Value

end
-- ==== Proof.FfnValue.lean ====
module

public import proofs.«01_k».proof.Proof.FfnTiles

@[expose] public section

/-! The two result arrays of the dense feed-forward kernel, as functions of its argument arrays. -/

set_option maxRecDepth 16384

noncomputable section

open Idealize.ShloMosaic Idealize.ShloMosaic.TcCoe Idealize.SL.Sem Cert.Rows
open Idealize.ShloMosaic.Pipeline (Dat)

namespace Cert.FfnIdeal.Value

open Cert.FfnIdeal Cert.FfnIdeal.Gen

variable (m : (ℓ : Loc nD τ sig) → Buf (Elt Ideal) ℓ)

/-- The normed feed-forward layer over whole arrays: entry `i` is lane `i 1` of the layer norm of `√2 h` plus the gated network of row `i 0`. -/
def dense (h : FVec Ideal S65536x1024 .f32) (w1 w3 : FVec Ideal S1024x2816 .f32) (w2 : FVec Ideal S2816x1024 .f32)
    (g b : FVec Ideal S1024 .f32) : S65536x1024.Idx → EReal := fun i =>
  layerNorm (fun k => ((Real.sqrt 2 : ℝ) : EReal) * h (ix2 (i 0) k)
      + swiglu (fun k => h (ix2 (i 0) k)) (fun k l => w1 (ix2 k l)) (fun k l => w3 (ix2 k l)) (fun k l => w2 (ix2 k l)) k)
    (fun k => g (ix1 k)) (fun k => b (ix1 k)) (i 1)

/-- `dense` of the argument arrays of device `c`. -/
abbrev denseOf (c : Dev nD) : S65536x1024.Idx → EReal :=
  dense (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Where each window's block lies: point `t` takes rows `1024 t` to `1024 t + 1023`, and the weights whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- The float32 result is `dense` of the arguments. -/
theorem final7 (c : Dev nD) : (dats m 0 c).arrAt 7 (cfgs 0).N = denseOf m c := by
  refine (dats m 0 c).arrAt_eq_of_covers 7 _ (by decide +kernel) fun t _ y => ?_
  blk_simp
  rw [after0_7]
  refine (out7_at m c t y).trans ?_
  simp only [denseOf, dense, layerNorm, swiglu, gated, vecMul, mean]
  blk_point [iblk, V, idx t]

/-- The bfloat16 result is `dense` of the arguments. -/
theorem final8 (c : Dev nD) : (dats m 0 c).arrAt 8 (cfgs 0).N = denseOf m c := by
  refine (dats m 0 c).arrAt_eq_of_covers 8 _ (by decide +kernel) fun t _ y => ?_
  blk_simp
  rw [after0_8]
  refine ((out8_at m c t y).trans (out7_at m c t y)).trans ?_
  simp only [denseOf, dense, layerNorm, swiglu, gated, vecMul, mean]
  blk_point [iblk, V, idx t]

end Cert.FfnIdeal.Value

end
-- ==== Proof.FfnRef.lean ====
module

public import proofs.«01_k».proof.Proof.Gen.FfnRefIdeal.Read
public import proofs.«01_k».proof.Proof.FfnValue
public import proofs.«01_k».proof.Proof.Consts

@[expose] public section

/-! The reference of the dense feed-forward kernel computes the same function of its arguments. -/

set_option maxRecDepth 16384

noncomputable section

open Idealize.ShloMosaic Idealize.ShloMosaic.TcCoe Idealize.SL.Sem Cert.Rows

namespace Cert.FfnRefIdeal.Same

open Cert.FfnRefIdeal Cert.FfnRefIdeal.Gen

open Cert.FfnRefIdeal.Read

/-- The reference's float32 result is the normed feed-forward layer of its arguments. -/
theorem res0 (x0 : FVec Ideal S65536x1024 .f32) (x1 x2 : FVec Ideal S1024x2816 .f32) (x3 : FVec Ideal S2816x1024 .f32)
    (x4 x5 : FVec Ideal S1024 .f32) :
    val_main_v34 (F := Ideal) x0 x1 x2 x3 x4 x5 = Cert.FfnIdeal.Value.dense x0 x1 x2 x3 x4 x5 := by
  funext i
  idx_vars i
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_v23,
    val_main_v24, val_main_v25, val_main_v26, val_main_v27, val_main_v28, val_main_v29, val_main_v30, val_main_v31,
    val_main_v32, val_main_v33, val_main_v34, val_main_v35, val_main_call0_v0, val_main_call0_v1, val_main_call0_v2,
    val_main_call0_v3, val_main_call0_v4, val_main_call0_v5, val_main_call0_cst, val_main_call0_cst_0, val_main_cst,
    val_main_cst_0, val_main_cst_1, val_main_cst_2, val_main_cst_3, val_main_cst_4, val_main_cst_5]
  simp only [Cert.Consts.rootFour, Cert.Consts.epsilon]
  pointwise [Cert.FfnIdeal.Value.dense, layerNorm, swiglu, gated, vecMul, mean, Ideal.logistic]

/-- The reference's bfloat16 result is its float32 result: over the reals the cast is the identity. -/
theorem res1 (x0 : FVec Ideal S65536x1024 .f32) (x1 x2 : FVec Ideal S1024x2816 .f32) (x3 : FVec Ideal S2816x1024 .f32)
    (x4 x5 : FVec Ideal S1024 .f32) :
    val_main_v35 (F := Ideal) x0 x1 x2 x3 x4 x5 = Cert.FfnIdeal.Value.dense x0 x1 x2 x3 x4 x5 := by
  rw [← res0]; rfl

end Cert.FfnRefIdeal.Same

end
-- ==== Proof.FfnClaims.lean ====
module

public import proofs.«01_k».proof.Defs
public import proofs.«01_k».proof.Proof.Gen.Ffn.Frame
public import proofs.«01_k».proof.Proof.FfnRef
public import Idealize.ShloMosaic.Lib.Claim
public import Idealize.ShloMosaic.Lib.Quiescent

@[expose] public section

/-! The claims about the dense feed-forward kernel. -/

set_option maxRecDepth 16384

noncomputable section

open Idealize.ShloMosaic Idealize.ShloMosaic.TcCoe Idealize.SL.Sem

namespace Cert.FfnClaims

/-- The kernel runs to the end and leaves its arguments alone. -/
theorem frame : Cert.quiescent_Ffn := fun m ρ _ => Cert.Ffn.Gen.frame m ρ

/-- So does the kernel over the reals. -/
theorem frameIdeal : Cert.quiescent_FfnIdeal := fun m ρ _ => Cert.FfnIdeal.Gen.frame m ρ

/-- The reference runs to the end and leaves its arguments alone. -/
theorem frameRef : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- The two named constants: the words `√2` and `1/100000` stand for. -/
theorem preserves : Cert.preserves_Ffn_FfnIdeal :=
  ⟨IdealRules.named_const.statement _ _ _ _ _ rfl, IdealRules.named_const.statement _ _ _ _ _ rfl⟩

set_option maxHeartbeats 1600000 in
/-- Over the reals both results of the kernel are those of the reference. -/
theorem algebraic : Cert.algebraic_FfnIdeal_FfnRefIdeal := by
  pair_intro
  · run_from Cert.FfnIdeal.Gen.run_main m g
  · run_from Cert.FfnRefIdeal.Value.run m' g'
    · refine ((Cert.FfnRefIdeal.Read.val_main_v34_eq m' c).trans (Cert.FfnRefIdeal.Same.res0 ..)).trans ?_
      obtain ⟨h0, h1, h2, h3, h4, h5⟩ := hagree c
      rw [h0, h1, h2, h3, h4, h5]
      exact (Cert.FfnIdeal.Value.final7 m c).symm
    · refine ((Cert.FfnRefIdeal.Read.val_main_v35_eq m' c).trans (Cert.FfnRefIdeal.Same.res1 ..)).trans ?_
      obtain ⟨h0, h1, h2, h3, h4, h5⟩ := hagree c
      rw [h0, h1, h2, h3, h4, h5]
      exact (Cert.FfnIdeal.Value.final8 m c).symm

end Cert.FfnClaims

end
-- ==== Proof.ExpertsWords.lean ====
/- The words that a table entry decides: which of the body's two paths a grid point takes, and the block numbers of
   the windows. Each is a fact about one 32-bit word. -/
module

public import Idealize.ShloMosaic.PureOps

@[expose] public section

namespace Cert.ExpertsWords

open Idealize.ShloMosaic

/-- The word of the test "the entry names an expert". -/
theorem slt_eight (v : BitVec 32) : Scalar.cmpi .slt v 8#32 = if v.toInt < 8 then 1#1 else 0#1 := by
  simp only [Scalar.cmpi, IntOp.cmpi]
  by_cases h : v.toInt < 8
  · have : BitVec.slt v 8#32 = true := by rw [BitVec.slt_eq_decide]; exact decide_eq_true h
    simp [h, this]
  · have : BitVec.slt v 8#32 = false := by rw [BitVec.slt_eq_decide]; exact decide_eq_false h
    simp [h, this]

/-- The smaller of a natural word and seven is a block number of an array of eight. -/
theorem min_seven (v : BitVec 32) (h : 0 ≤ v.toInt) : (Scalar.minsi v 7#32).toNat = min v.toNat 7 := by
  simp only [Scalar.minsi, IntOp.minsi]
  have e : v.toInt = v.toNat := by
    rw [BitVec.toInt_eq_toNat_cond] at h ⊢
    split at h <;> omega
  have e7 : (7#32 : BitVec 32).toInt = 7 := by decide
  have n7 : (7#32 : BitVec 32).toNat = 7 := by decide
  split
  · rename_i hs
    rw [BitVec.slt_eq_decide] at hs
    have := of_decide_eq_true hs
    omega
  · rename_i hs
    rw [BitVec.slt_eq_decide] at hs
    have := of_decide_eq_false (Bool.eq_false_iff.mpr hs)
    omega

/-- A word that passes the test "at least zero" is a natural number. -/
theorem sge_zero (v : BitVec 32) (h : IntOp.cmpi .sge v 0#32 = 1#1) : 0 ≤ v.toInt := by
  simp only [IntOp.cmpi] at h
  by_contra hn
  have : BitVec.sle 0#32 v = false := by
    rw [BitVec.sle_eq_decide]
    exact decide_eq_false (by simpa using hn)
  simp [this] at h

end Cert.ExpertsWords

end
-- ==== Proof.ExpertsFrame.lean ====
/- The run of the experts' feed-forward call on machine words, for every table whose entries are natural
   numbers. The table picks the weight blocks and the path of the body at each of the 136 grid points, so the
   pipeline is taken at the table that memory holds. -/
module

public import proofs.«01_k».proof.Proof.Gen.Experts.Launch
public import proofs.«01_k».proof.Proof.Gen.Experts.Flash.Runs
public import proofs.«01_k».proof.Proof.ExpertsWords
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384

noncomputable section

namespace Cert.Experts.Run

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's resources. -/
local notation "𝕄" => MT nD τ sig Unit (Elt Bits) ℕ (UR sig nD τ) ℕ

/-- The staging cells' resources among them. -/
abbrev EP : Emb (UR sig nD τ) 𝕄 := emb₁

/-- A table of experts: one word per tile of 1024 rows, each a natural number. -/
abbrev Table : Type := { T : S136.Idx → BitVec 32 // ∀ x, 0 ≤ (T x).toInt }

variable (T : Table)

/-! ## The blocks are inside their arrays -/

/-- The table as the index maps read it. -/
def tabs : pre0.Contents (Elt Bits) := fun | ⟨0, _⟩ => T.1 | ⟨_ + 1, h⟩ => absurd h (by simp)

/-- The index maps read the table at the grid point's own number. -/
theorem grid_lt (i : grid0.Coords) : (i 0).val < 136 := (i 0).isLt

/-- The rows' block number is the grid point's, or zero. -/
theorem rows_le (i : grid0.Coords) (v : BitVec 32) :
    (Scalar.select (Scalar.cmpi .slt v 8#32) (BitVec.ofNat 32 (i 0).val) 0#32).toNat ≤ 135 := by
  have h := grid_lt i
  unfold Scalar.select
  split
  · rw [BitVec.toNat_ofNat]; omega
  · exact Nat.zero_le _

/-- The weights' block number is one of eight. -/
theorem expert_le (x : S136.Idx) : (Scalar.minsi (T.1 x) 7#32).toNat ≤ 7 := by
  rw [ExpertsWords.min_seven _ (T.2 x)]; omega

theorem inb0 (i : grid0.Coords) : ∀ a, (cc0_transform_0 k0_off1_inb numel1_S1 (tabs T) i a + 1) * S1024x1024.size a ≤ S139264x1024.size a := by
  intro a
  have h := rows_le i (T.1 ((Rect.unit (s := S136) ![(Scalar.indexCast (BitVec.ofNat 32 (i 0).val) : Index).toNat] S1.size (k0_off1_inb i)).emb (Shape.Idx.first (numel1_S1.symm ▸ Nat.one_pos))))
  fin_cases a
  · exact (Nat.mul_le_mul_right 1024 (Nat.succ_le_succ h)).trans (by decide)
  · exact (by decide : (0 + 1) * 1024 ≤ 1024)

theorem inb1 (i : grid0.Coords) : ∀ a, (cc0_transform_1 k0_off1_inb numel1_S1 (tabs T) i a + 1) * S1x1024x3584.size a ≤ S8x1024x3584.size a := by
  intro a
  have h := expert_le T ((Rect.unit (s := S136) ![(Scalar.indexCast (BitVec.ofNat 32 (i 0).val) : Index).toNat] S1.size (k0_off1_inb i)).emb (Shape.Idx.first (numel1_S1.symm ▸ Nat.one_pos)))
  fin_cases a
  · exact (Nat.mul_le_mul_right 1 (Nat.succ_le_succ h)).trans (by decide)
  · exact (by decide : (0 + 1) * 1024 ≤ 1024)
  · exact (by decide : (0 + 1) * 3584 ≤ 3584)

theorem inb2 (i : grid0.Coords) : ∀ a, (cc0_transform_2 k0_off1_inb numel1_S1 (tabs T) i a + 1) * S1x1024x3584.size a ≤ S8x1024x3584.size a := by
  intro a
  have h := expert_le T ((Rect.unit (s := S136) ![(Scalar.indexCast (BitVec.ofNat 32 (i 0).val) : Index).toNat] S1.size (k0_off1_inb i)).emb (Shape.Idx.first (numel1_S1.symm ▸ Nat.one_pos)))
  fin_cases a
  · exact (Nat.mul_le_mul_right 1 (Nat.succ_le_succ h)).trans (by decide)
  · exact (by decide : (0 + 1) * 1024 ≤ 1024)
  · exact (by decide : (0 + 1) * 3584 ≤ 3584)

theorem inb3 (i : grid0.Coords) : ∀ a, (cc0_transform_3 k0_off1_inb numel1_S1 (tabs T) i a + 1) * S1x3584x1024.size a ≤ S8x3584x1024.size a := by
  intro a
  have h := expert_le T ((Rect.unit (s := S136) ![(Scalar.indexCast (BitVec.ofNat 32 (i 0).val) : Index).toNat] S1.size (k0_off1_inb i)).emb (Shape.Idx.first (numel1_S1.symm ▸ Nat.one_pos)))
  fin_cases a
  · exact (Nat.mul_le_mul_right 1 (Nat.succ_le_succ h)).trans (by decide)
  · exact (by decide : (0 + 1) * 3584 ≤ 3584)
  · exact (by decide : (0 + 1) * 1024 ≤ 1024)

/-- The pipeline runs at every such table. -/
theorem ok_tabs : ok0 (F := Bits) (tabs T) :=
  ⟨fun i => ⟨inb0 T i, .inl rfl⟩,
   fun i => ⟨inb1 T i, .inr (Affine.block_words_dvd (s := S8x1024x3584) (p := EltTy.packing .bf16) (by decide) (by decide))⟩,
   fun i => ⟨inb2 T i, .inr (Affine.block_words_dvd (s := S8x1024x3584) (p := EltTy.packing .bf16) (by decide) (by decide))⟩,
   fun i => ⟨inb3 T i, .inr (Affine.block_words_dvd (s := S8x3584x1024) (p := EltTy.packing .bf16) (by decide) (by decide))⟩⟩

/-! ## The pipeline at the table -/

/-- The table, admitted. -/
def adm : (pcfg0 (F := Bits)).Adm := ⟨tabs T, ok_tabs T⟩
/-- The pipeline at it. -/
abbrev cfgT : Pipeline.Cfg sig Λ₀ := cfg0 (F := Bits) (adm T)
abbrev pcs : Fin 1 → Pipeline.Cfg sig Λ₀ := Pipeline.pin (pcfgs (F := Bits)) fun _ => adm T

variable (m : (ℓ : Loc nD τ sig) → Buf (Elt Bits) ℓ) (ρ : Dev nD → PrngReg)

/-- The state the run starts in. -/
abbrev start : MemSt nD τ sig (Elt Bits) := ⟨m, fun _ => 0, ρ⟩

/-- A point's coordinates. -/
abbrev crd (t : Fin (cfgT T).N) : (cfgT T).grid.Coords := (cfgT T).grid.coords t

abbrev ms0_0 (t : Fin (cfgT T).N) : Memref sig .tc .vmem S1024x1024 .f32 := spec0_0.stage ((cfgT T).slots t (0 : Fin 5))
abbrev hs0_0 (t : Fin (cfgT T).N) : (ms0_0 T t).IsWhole := hstage0_0 (((cfgT T).slots t (0 : Fin 5)).cast nbuf0_0)
abbrev ms0_1 (t : Fin (cfgT T).N) : Memref sig .tc .vmem S1x1024x3584 .bf16 := spec0_1.stage ((cfgT T).slots t (1 : Fin 5))
abbrev hs0_1 (t : Fin (cfgT T).N) : (ms0_1 T t).IsWhole := hstage0_1 (((cfgT T).slots t (1 : Fin 5)).cast nbuf0_1)
abbrev ms0_2 (t : Fin (cfgT T).N) : Memref sig .tc .vmem S1x1024x3584 .bf16 := spec0_2.stage ((cfgT T).slots t (2 : Fin 5))
abbrev hs0_2 (t : Fin (cfgT T).N) : (ms0_2 T t).IsWhole := hstage0_2 (((cfgT T).slots t (2 : Fin 5)).cast nbuf0_2)
abbrev ms0_3 (t : Fin (cfgT T).N) : Memref sig .tc .vmem S1x3584x1024 .bf16 := spec0_3.stage ((cfgT T).slots t (3 : Fin 5))
abbrev hs0_3 (t : Fin (cfgT T).N) : (ms0_3 T t).IsWhole := hstage0_3 (((cfgT T).slots t (3 : Fin 5)).cast nbuf0_3)
abbrev ms0_4 (t : Fin (cfgT T).N) : Memref sig .tc .vmem S1024x1024 .f32 := spec0_4.stage ((cfgT T).slots t (4 : Fin 5))
abbrev hs0_4 (t : Fin (cfgT T).N) : (ms0_4 T t).IsWhole := hstage0_4 (((cfgT T).slots t (4 : Fin 5)).cast nbuf0_4)

/-- A window's block at a point, as memory holds it at the start. -/
def iblk (c : Dev nD) (w : Fin (cfgT T).W) (t : Fin (cfgT T).N) : (((cfgT T).win w).xblock (crd T t)).Idx → Elt Bits ((cfgT T).win w).elt :=
  (((cfgT T).win w).blk t).view.read (Elt Bits) (m (((cfgT T).win w).arr.view.loc (c : Thread nD τ)))

/-! ## The path at a point -/

/-- The table's entry at a point, as the body loads it. -/
abbrev entry (t : Fin (cfgT T).N) : BitVec 32 :=
  View.readAt (Elt Bits) (tbM0_0).view (Rect.unit (s := S136) (k0_off1 (crd T t)) S1.size (k0_off1_inb (crd T t))).toLoadRect T.1 (Shape.Idx.first (numel1_S1.symm ▸ Nat.one_pos))

/-- The entry names an expert, so that the body multiplies there. -/
abbrev Used (t : Fin (cfgT T).N) : Prop := k0_cond1 (entry T t) = 1#1

/-- The two conditions of the body exclude one another, and one of them holds. -/
theorem conds (v : BitVec 32) : (k0_cond1 v = 1#1 ∧ ¬ k0_cond2 v = 1#1) ∨ (¬ k0_cond1 v = 1#1 ∧ k0_cond2 v = 1#1) := by
  unfold k0_cond1 k0_cond2
  dsimp only
  rw [ExpertsWords.slt_eight]
  split
  · exact .inl (by decide)
  · exact .inr (by decide)

theorem used_not (t : Fin (cfgT T).N) (h : Used T t) : ¬ k0_cond2 (entry T t) = 1#1 :=
  (conds (entry T t)).elim (·.2) fun h' => absurd h h'.1
theorem unused_cond (t : Fin (cfgT T).N) (h : ¬ Used T t) : k0_cond2 (entry T t) = 1#1 :=
  (conds (entry T t)).elim (fun h' => absurd h'.1 h) (·.2)

/-- No point leaves the output as it was. -/
theorem idle4 (i : (cfgT T).grid.Coords) : (cfgT T).idle (4 : Fin 5) i = false := by
  show (!(k0_cond1 ((tabs T).atD 0 (k0_off1 i)) == 1#1) && !(k0_cond2 ((tabs T).atD 0 (k0_off1 i)) == 1#1)) = false
  rcases conds ((tabs T).atD 0 (k0_off1 i)) with ⟨h, -⟩ | ⟨-, h⟩
  · rw [beq_iff_eq.mpr h]; rfl
  · rw [beq_iff_eq.mpr h, Bool.not_true, Bool.and_false]

/-- The output's block number is another at each point. -/
theorem flush_points : ∀ t : Fin grid0.N, Pipeline.Window.flushOf grid0 true cc0_transform_4 t = true := by decide +kernel

/-- Every point writes its output block back. -/
theorem flush4 (t : Fin (cfgT T).N) : ((cfgT T).win (4 : Fin 5)).flush t = true := flush_points t

/-- So the output's buffer holds nothing of use when a point begins. -/
theorem fresh4 (t : Fin (cfgT T).N) : (cfgT T).fresh (4 : Fin 5) t.val = true :=
  Pipeline.Cfg.fresh_tab (cfgT T) (4 : Fin 5) (fun _ => true) rfl (fun t => by rw [flush4 T t, Bool.true_or]) t.val (Nat.le_of_lt t.isLt)

/-! ## What a point leaves -/

/-- The output block a point leaves. -/
def left (c : Dev nD) (t : Fin (cfgT T).N) : S1024x1024.Idx → Elt Bits .f32 :=
  if h : Used T t then
    out0_A_4 c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) h (used_not T t h)
  else
    out0_B_4 c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) h (unused_cond T t h)

theorem left_used (c : Dev nD) (t : Fin (cfgT T).N) (h : Used T t) : left T m c t = out0_A_4 c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) h (used_not T t h) := dif_pos h
theorem left_unused (c : Dev nD) (t : Fin (cfgT T).N) (h : ¬ Used T t) : left T m c t = out0_B_4 c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) h (unused_cond T t h) := dif_neg h

/-- The body keeps the table. -/
def Phi (c : Dev nD) (t : Fin ((cfgT T).N + 1)) : sProp 𝕄 :=
  iprop((tbM0_0.view.loc (c : Thread nD τ) ↦{fullShare.right} T.1))

/-- What the arrays hold at the start, and what each window's buffer holds after each point. -/
def dats (_ : Fin 1) (c : Dev nD) : Dat τ (Elt Bits) Unit ℕ (UR sig nD τ) ℕ (cfgT T) c where
  A w := m (((cfgT T).win w).arr.view.loc (c : Thread nD τ))
  after w t := match w with
    | ⟨0, _⟩ => iblk T m c (0 : Fin 5) t
    | ⟨1, _⟩ => iblk T m c (1 : Fin 5) t
    | ⟨2, _⟩ => iblk T m c (2 : Fin 5) t
    | ⟨3, _⟩ => iblk T m c (3 : Fin 5) t
    | ⟨4, _⟩ => left T m c t
  Φ t := Phi T c t
  q _ := fullShare
  owed _ := 0

theorem after0_0 (c : Dev nD) (t : Fin (cfgT T).N) : (dats T m 0 c).after (0 : Fin 5) t = iblk T m c (0 : Fin 5) t := rfl
theorem after0_1 (c : Dev nD) (t : Fin (cfgT T).N) : (dats T m 0 c).after (1 : Fin 5) t = iblk T m c (1 : Fin 5) t := rfl
theorem after0_2 (c : Dev nD) (t : Fin (cfgT T).N) : (dats T m 0 c).after (2 : Fin 5) t = iblk T m c (2 : Fin 5) t := rfl
theorem after0_3 (c : Dev nD) (t : Fin (cfgT T).N) : (dats T m 0 c).after (3 : Fin 5) t = iblk T m c (3 : Fin 5) t := rfl
theorem after0_4 (c : Dev nD) (t : Fin (cfgT T).N) : (dats T m 0 c).after (4 : Fin 5) t = left T m c t := rfl

theorem before0_0 (c : Dev nD) (t : Fin (cfgT T).N) (d) : (dats T m 0 c).before (0 : Fin 5) t d = iblk T m c (0 : Fin 5) t :=
  ((dats T m 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgT T).N) (d) : (dats T m 0 c).before (1 : Fin 5) t d = iblk T m c (1 : Fin 5) t :=
  ((dats T m 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgT T).N) (d) : (dats T m 0 c).before (2 : Fin 5) t d = iblk T m c (2 : Fin 5) t :=
  ((dats T m 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgT T).N) (d) : (dats T m 0 c).before (3 : Fin 5) t d = iblk T m c (3 : Fin 5) t :=
  ((dats T m 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output's buffer holds anything when a point begins. -/
theorem before0_4 (c : Dev nD) (t : Fin (cfgT T).N) (d) : (dats T m 0 c).before (4 : Fin 5) t d = d := by
  rw [(dats T m 0 c).before_out_traj (4 : Fin 5) rfl (fun _ _ => rfl) (fun t _ hi _ => absurd hi (by rw [idle4]; decide)) t.val t rfl d,
    if_pos (fresh4 T t)]

/-! ## The body -/

/-- The body at a point. -/
abbrev bodyAt0 (t : Fin (cfgT T).N) : Prog (TpuEff nD τ sig (Elt Bits) Λ₀ .tc) PUnit :=
  cc0_grouped_ffn (crd T t) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t)

set_option maxHeartbeats 4000000 in
/-- The body at a point takes the buffers from what they hold before it to what it leaves. -/
theorem sound_body (c : Dev nD) (t : Fin (cfgT T).N) :
    iprop((dats T m 0 c).Φ t.castSucc ∗ (dats T m 0 c).owesAt () t.castSucc
        ∗ (∃ d, owns (c : Thread nD τ) (ms0_0 T t) fullShare ((dats T m 0 c).before (0 : Fin 5) t d))
        ∗ (∃ d, owns (c : Thread nD τ) (ms0_1 T t) fullShare ((dats T m 0 c).before (1 : Fin 5) t d))
        ∗ (∃ d, owns (c : Thread nD τ) (ms0_2 T t) fullShare ((dats T m 0 c).before (2 : Fin 5) t d))
        ∗ (∃ d, owns (c : Thread nD τ) (ms0_3 T t) fullShare ((dats T m 0 c).before (3 : Fin 5) t d))
        ∗ (∃ d, owns (c : Thread nD τ) (ms0_4 T t) fullShare ((dats T m 0 c).before (4 : Fin 5) t d)))
      ⊢ wp frame (wpE (defs₀ (F := Bits)) Variants.none c none) Set.univ (bodyAt0 T t) fun _ =>
          iprop((dats T m 0 c).Φ t.succ ∗ (dats T m 0 c).owesAt () t.succ
            ∗ bigSep Finset.univ fun w : Fin (cfgT T).W =>
                match (cfgT T).idle w ((cfgT T).grid.coords t) with
                | true =>
                  match ((cfgT T).win w).flush t with
                  | false => iprop(∃ d, owns (c : Thread nD τ) (((cfgT T).win w).stage ((cfgT T).slots t w)) fullShare ((dats T m 0 c).before w t d))
                  | true => owns (c : Thread nD τ) (((cfgT T).win w).stage ((cfgT T).slots t w)) fullShare ((dats T m 0 c).after w t)
                | false => owns (c : Thread nD τ) (((cfgT T).win w).stage ((cfgT T).slots t w)) fullShare ((dats T m 0 c).after w t)) := by
  rw [bigSep_W0]
  rewrite [idle4 T]
  simp only [before0_0, before0_1, before0_2, before0_3, before0_4, after0_0, after0_1, after0_2, after0_3, after0_4]
  rewrite [show (dats T m 0 c).Φ t.succ = Phi T c t.succ from rfl, show (dats T m 0 c).Φ t.castSucc = Phi T c t.castSucc from rfl,
    show (dats T m 0 c).owesAt () t.succ = (dats T m 0 c).owesAt () t.castSucc from rfl]
  unfold Phi
  by_cases q : Used T t
  · rewrite [left_used T m c t q]
    iintro ⟨HT0, Ho, ⟨%d0, H0⟩, ⟨%d1, H1⟩, ⟨%d2, H2⟩, ⟨%d3, H3⟩, ⟨%d4, H4⟩⟩
    iapply ((kernelRun0_A c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) q (used_not T t q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    iintro ⟨H0, H1, H2, H3, HT0, ⟨%e4, H4⟩⟩
    isplitl [HT0]; · iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _)
  · rewrite [left_unused T m c t q]
    iintro ⟨HT0, Ho, ⟨%d0, H0⟩, ⟨%d1, H1⟩, ⟨%d2, H2⟩, ⟨%d3, H3⟩, ⟨%d4, H4⟩⟩
    iapply ((kernelRun0_B c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) q (unused_cond T t q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    iintro ⟨H0, H1, H2, H3, HT0, ⟨%e4, H4⟩⟩
    isplitl [HT0]; · iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _)

/-- Memory holds the table. -/
def Holds : Prop := ∀ c : Dev nD, m ((c : Thread nD τ).loc main_arg1) = T.1

/-- So the body is sound at every point. -/
theorem body_obligation (c : Dev nD) : BodyObligation (dats T m 0 c) (defs₀ (F := Bits)) Variants.none () Set.univ := fun t => by
  rw [bigSep_W0]
  exact sound_body T m c t

/-! ## The launch -/

/-- The resources of the launch. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgT T).W) : (dats T m 0 c).share w = fullShare := by unfold Dat.share; split <;> rfl

/-- What the launch hands the pipeline of the table. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0)) := by
  unfold Pipeline.prefHeld
  rw [show (Finset.univ : Finset (Fin 1)) = {(0 : Fin 1)} from by decide, bigSep_singleton]
  rfl

/-- What the body keeps at the first point, -/
theorem phi0_intro (c : Dev nD) :
    iprop(BI.emp ∗ Pipeline.prefHeld pre0 c (fun _ => fullShare.right) (adm T).1 ∗ Pipeline.scopedRest spec0 c) ⊢ (dats T m 0 c).Φ 0 := by
  rw [prefHeld_eq, scopedRest0_eq, show (dats T m 0 c).Φ 0 = Phi T c 0 from rfl]
  unfold Phi
  iintro ⟨-, ⟨HT0⟩, -⟩
  iexact HT0

/-- and what it gives back at the last. -/
theorem phiN_exit (c : Dev nD) : (dats T m 0 c).Φ (Fin.last (cfgT T).N) ⊢ iprop(BI.emp ∗ Pipeline.scopedRest spec0 c) := by
  rw [scopedRest0_eq, show (dats T m 0 c).Φ (Fin.last (cfgT T).N) = Phi T c (Fin.last _) from rfl]
  unfold Phi
  iintro ⟨-⟩
  isplitr; · iempintro
  iempintro

/-- How memory ends: each array as the pipeline computes it, the table as it was. -/
def QC : PUnit × MemSt nD τ sig (Elt Bits) → Prop := fun r =>
  ∀ c : Dev nD, (∀ w : Fin (cfgT T).W, r.2.mem (((cfgT T).win w).arr.view.loc (c : Thread nD τ)) = (dats T m 0 c).arrAt w (cfgT T).N)
    ∧ ∀ j, r.2.mem ((c : Thread nD τ).loc (pre0.ref j)) = (adm T).1 j

theorem V_pre (hp : Holds T m) (c : Dev nD) (j : Fin 1) : m ((c : Thread nD τ).loc (pre0.ref j)) = (adm T).1 j := by
  fin_cases j
  · exact hp c

set_option backward.isDefEq.respectTransparency.types false in
set_option maxHeartbeats 4000000 in
/-- From a memory that holds the table, every execution ends with each array at what the pipeline computes and every
    semaphore counter at zero. -/
theorem run_main_quiescent (hp : Holds T m) : θ_run (defs (F := Bits)) (onTc (τ := τ) (main (F := Bits))) (start m ρ) (fun r => QC T m r ∧ r.2.sem = fun _ => 0) :=
  Pipeline.θ_run_region_noSem_pf_quiescent pcfgs (fun _ => adm T) (dats T m) () ((launch0 (F := Bits)).cellOf_inj fun _ => adm T) (0 : Fin 1)
    (launch0 (F := Bits)).win.to₀ (launch0 (F := Bits)).pre EP defs₀ Variants.none m ρ main
    (hbody := fun c => (body_obligation T m c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m) 0 (launch0 (F := Bits)).win.arr_inj c (launch0 (F := Bits)).arr_whole
      (share_eq T m c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m)
    (hout := phiN_exit T m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same of the arrays alone. -/
theorem run_main (hp : Holds T m) : θ_run (defs (F := Bits)) (onTc (τ := τ) (main (F := Bits))) (start m ρ) (QC T m) :=
  (θ_run defs _ _).mono (fun _ h => h.1) (run_main_quiescent T m ρ hp)

/-- The arguments end as they were. -/
theorem unchanged (hp : Holds T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 (0 : Fin 5)).trans ((dats T m 0 c).arrAt_in (0 : Fin 5) rfl _), ((h c).2 0).trans (hp c).symm, ((h c).1 (1 : Fin 5)).trans ((dats T m 0 c).arrAt_in (1 : Fin 5) rfl _), ((h c).1 (2 : Fin 5)).trans ((dats T m 0 c).arrAt_in (2 : Fin 5) rfl _), ((h c).1 (3 : Fin 5)).trans ((dats T m 0 c).arrAt_in (3 : Fin 5) rfl _)⟩) (run_main T m ρ hp)

/-- Every execution ends, without fault, with the arguments as they were and every semaphore counter at zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged T m ρ hp) ((θ_run defs _ _).mono (fun _ h => h.2) (run_main_quiescent T m ρ hp))

end Cert.Experts.Run

end
-- ==== Proof.ExpertsIdealFrame.lean ====
/- The run of the experts' feed-forward call over the extended reals, for every table whose entries are natural
   numbers. The table picks the weight blocks and the path of the body at each of the 136 grid points, so the
   pipeline is taken at the table that memory holds. -/
module

public import proofs.«01_k».proof.Proof.Gen.ExpertsIdeal.Launch
public import proofs.«01_k».proof.Proof.Gen.ExpertsIdeal.Flash.Runs
public import proofs.«01_k».proof.Proof.ExpertsWords
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384

noncomputable section

namespace Cert.ExpertsIdeal.Run

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's resources. -/
local notation "𝕄" => MT nD τ sig Unit (Elt Ideal) ℕ (UR sig nD τ) ℕ

/-- The staging cells' resources among them. -/
abbrev EP : Emb (UR sig nD τ) 𝕄 := emb₁

/-- A table of experts: one word per tile of 1024 rows, each a natural number. -/
abbrev Table : Type := { T : S136.Idx → BitVec 32 // ∀ x, 0 ≤ (T x).toInt }

variable (T : Table)

/-! ## The blocks are inside their arrays -/

/-- The table as the index maps read it. -/
def tabs : pre0.Contents (Elt Ideal) := fun | ⟨0, _⟩ => T.1 | ⟨_ + 1, h⟩ => absurd h (by simp)

/-- The index maps read the table at the grid point's own number. -/
theorem grid_lt (i : grid0.Coords) : (i 0).val < 136 := (i 0).isLt

/-- The rows' block number is the grid point's, or zero. -/
theorem rows_le (i : grid0.Coords) (v : BitVec 32) :
    (Scalar.select (Scalar.cmpi .slt v 8#32) (BitVec.ofNat 32 (i 0).val) 0#32).toNat ≤ 135 := by
  have h := grid_lt i
  unfold Scalar.select
  split
  · rw [BitVec.toNat_ofNat]; omega
  · exact Nat.zero_le _

/-- The weights' block number is one of eight. -/
theorem expert_le (x : S136.Idx) : (Scalar.minsi (T.1 x) 7#32).toNat ≤ 7 := by
  rw [ExpertsWords.min_seven _ (T.2 x)]; omega

theorem inb0 (i : grid0.Coords) : ∀ a, (cc0_transform_0 k0_off1_inb numel1_S1 (tabs T) i a + 1) * S1024x1024.size a ≤ S139264x1024.size a := by
  intro a
  have h := rows_le i (T.1 ((Rect.unit (s := S136) ![(Scalar.indexCast (BitVec.ofNat 32 (i 0).val) : Index).toNat] S1.size (k0_off1_inb i)).emb (Shape.Idx.first (numel1_S1.symm ▸ Nat.one_pos))))
  fin_cases a
  · exact (Nat.mul_le_mul_right 1024 (Nat.succ_le_succ h)).trans (by decide)
  · exact (by decide : (0 + 1) * 1024 ≤ 1024)

theorem inb1 (i : grid0.Coords) : ∀ a, (cc0_transform_1 k0_off1_inb numel1_S1 (tabs T) i a + 1) * S1x1024x3584.size a ≤ S8x1024x3584.size a := by
  intro a
  have h := expert_le T ((Rect.unit (s := S136) ![(Scalar.indexCast (BitVec.ofNat 32 (i 0).val) : Index).toNat] S1.size (k0_off1_inb i)).emb (Shape.Idx.first (numel1_S1.symm ▸ Nat.one_pos)))
  fin_cases a
  · exact (Nat.mul_le_mul_right 1 (Nat.succ_le_succ h)).trans (by decide)
  · exact (by decide : (0 + 1) * 1024 ≤ 1024)
  · exact (by decide : (0 + 1) * 3584 ≤ 3584)

theorem inb2 (i : grid0.Coords) : ∀ a, (cc0_transform_2 k0_off1_inb numel1_S1 (tabs T) i a + 1) * S1x1024x3584.size a ≤ S8x1024x3584.size a := by
  intro a
  have h := expert_le T ((Rect.unit (s := S136) ![(Scalar.indexCast (BitVec.ofNat 32 (i 0).val) : Index).toNat] S1.size (k0_off1_inb i)).emb (Shape.Idx.first (numel1_S1.symm ▸ Nat.one_pos)))
  fin_cases a
  · exact (Nat.mul_le_mul_right 1 (Nat.succ_le_succ h)).trans (by decide)
  · exact (by decide : (0 + 1) * 1024 ≤ 1024)
  · exact (by decide : (0 + 1) * 3584 ≤ 3584)

theorem inb3 (i : grid0.Coords) : ∀ a, (cc0_transform_3 k0_off1_inb numel1_S1 (tabs T) i a + 1) * S1x3584x1024.size a ≤ S8x3584x1024.size a := by
  intro a
  have h := expert_le T ((Rect.unit (s := S136) ![(Scalar.indexCast (BitVec.ofNat 32 (i 0).val) : Index).toNat] S1.size (k0_off1_inb i)).emb (Shape.Idx.first (numel1_S1.symm ▸ Nat.one_pos)))
  fin_cases a
  · exact (Nat.mul_le_mul_right 1 (Nat.succ_le_succ h)).trans (by decide)
  · exact (by decide : (0 + 1) * 3584 ≤ 3584)
  · exact (by decide : (0 + 1) * 1024 ≤ 1024)

/-- The pipeline runs at every such table. -/
theorem ok_tabs : ok0 (F := Ideal) (tabs T) :=
  ⟨fun i => ⟨inb0 T i, .inl rfl⟩,
   fun i => ⟨inb1 T i, .inr (Affine.block_words_dvd (s := S8x1024x3584) (p := EltTy.packing .bf16) (by decide) (by decide))⟩,
   fun i => ⟨inb2 T i, .inr (Affine.block_words_dvd (s := S8x1024x3584) (p := EltTy.packing .bf16) (by decide) (by decide))⟩,
   fun i => ⟨inb3 T i, .inr (Affine.block_words_dvd (s := S8x3584x1024) (p := EltTy.packing .bf16) (by decide) (by decide))⟩⟩

/-! ## The pipeline at the table -/

/-- The table, admitted. -/
def adm : (pcfg0 (F := Ideal)).Adm := ⟨tabs T, ok_tabs T⟩
/-- The pipeline at it. -/
abbrev cfgT : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-- The state the run starts in. -/
abbrev start : MemSt nD τ sig (Elt Ideal) := ⟨m, fun _ => 0, ρ⟩

/-- A point's coordinates. -/
abbrev crd (t : Fin (cfgT T).N) : (cfgT T).grid.Coords := (cfgT T).grid.coords t

abbrev ms0_0 (t : Fin (cfgT T).N) : Memref sig .tc .vmem S1024x1024 .f32 := spec0_0.stage ((cfgT T).slots t (0 : Fin 5))
abbrev hs0_0 (t : Fin (cfgT T).N) : (ms0_0 T t).IsWhole := hstage0_0 (((cfgT T).slots t (0 : Fin 5)).cast nbuf0_0)
abbrev ms0_1 (t : Fin (cfgT T).N) : Memref sig .tc .vmem S1x1024x3584 .bf16 := spec0_1.stage ((cfgT T).slots t (1 : Fin 5))
abbrev hs0_1 (t : Fin (cfgT T).N) : (ms0_1 T t).IsWhole := hstage0_1 (((cfgT T).slots t (1 : Fin 5)).cast nbuf0_1)
abbrev ms0_2 (t : Fin (cfgT T).N) : Memref sig .tc .vmem S1x1024x3584 .bf16 := spec0_2.stage ((cfgT T).slots t (2 : Fin 5))
abbrev hs0_2 (t : Fin (cfgT T).N) : (ms0_2 T t).IsWhole := hstage0_2 (((cfgT T).slots t (2 : Fin 5)).cast nbuf0_2)
abbrev ms0_3 (t : Fin (cfgT T).N) : Memref sig .tc .vmem S1x3584x1024 .bf16 := spec0_3.stage ((cfgT T).slots t (3 : Fin 5))
abbrev hs0_3 (t : Fin (cfgT T).N) : (ms0_3 T t).IsWhole := hstage0_3 (((cfgT T).slots t (3 : Fin 5)).cast nbuf0_3)
abbrev ms0_4 (t : Fin (cfgT T).N) : Memref sig .tc .vmem S1024x1024 .f32 := spec0_4.stage ((cfgT T).slots t (4 : Fin 5))
abbrev hs0_4 (t : Fin (cfgT T).N) : (ms0_4 T t).IsWhole := hstage0_4 (((cfgT T).slots t (4 : Fin 5)).cast nbuf0_4)

/-- A window's block at a point, as memory holds it at the start. -/
def iblk (c : Dev nD) (w : Fin (cfgT T).W) (t : Fin (cfgT T).N) : (((cfgT T).win w).xblock (crd T t)).Idx → Elt Ideal ((cfgT T).win w).elt :=
  (((cfgT T).win w).blk t).view.read (Elt Ideal) (m (((cfgT T).win w).arr.view.loc (c : Thread nD τ)))

/-! ## The path at a point -/

/-- The table's entry at a point, as the body loads it. -/
abbrev entry (t : Fin (cfgT T).N) : BitVec 32 :=
  View.readAt (Elt Ideal) (tbM0_0).view (Rect.unit (s := S136) (k0_off1 (crd T t)) S1.size (k0_off1_inb (crd T t))).toLoadRect T.1 (Shape.Idx.first (numel1_S1.symm ▸ Nat.one_pos))

/-- The entry names an expert, so that the body multiplies there. -/
abbrev Used (t : Fin (cfgT T).N) : Prop := k0_cond1 (entry T t) = 1#1

/-- The two conditions of the body exclude one another, and one of them holds. -/
theorem conds (v : BitVec 32) : (k0_cond1 v = 1#1 ∧ ¬ k0_cond2 v = 1#1) ∨ (¬ k0_cond1 v = 1#1 ∧ k0_cond2 v = 1#1) := by
  unfold k0_cond1 k0_cond2
  dsimp only
  rw [ExpertsWords.slt_eight]
  split
  · exact .inl (by decide)
  · exact .inr (by decide)

theorem used_not (t : Fin (cfgT T).N) (h : Used T t) : ¬ k0_cond2 (entry T t) = 1#1 :=
  (conds (entry T t)).elim (·.2) fun h' => absurd h h'.1
theorem unused_cond (t : Fin (cfgT T).N) (h : ¬ Used T t) : k0_cond2 (entry T t) = 1#1 :=
  (conds (entry T t)).elim (fun h' => absurd h'.1 h) (·.2)

/-- No point leaves the output as it was. -/
theorem idle4 (i : (cfgT T).grid.Coords) : (cfgT T).idle (4 : Fin 5) i = false := by
  show (!(k0_cond1 ((tabs T).atD 0 (k0_off1 i)) == 1#1) && !(k0_cond2 ((tabs T).atD 0 (k0_off1 i)) == 1#1)) = false
  rcases conds ((tabs T).atD 0 (k0_off1 i)) with ⟨h, -⟩ | ⟨-, h⟩
  · rw [beq_iff_eq.mpr h]; rfl
  · rw [beq_iff_eq.mpr h, Bool.not_true, Bool.and_false]

/-- The output's block number is another at each point. -/
theorem flush_points : ∀ t : Fin grid0.N, Pipeline.Window.flushOf grid0 true cc0_transform_4 t = true := by decide +kernel

/-- Every point writes its output block back. -/
theorem flush4 (t : Fin (cfgT T).N) : ((cfgT T).win (4 : Fin 5)).flush t = true := flush_points t

/-- So the output's buffer holds nothing of use when a point begins. -/
theorem fresh4 (t : Fin (cfgT T).N) : (cfgT T).fresh (4 : Fin 5) t.val = true :=
  Pipeline.Cfg.fresh_tab (cfgT T) (4 : Fin 5) (fun _ => true) rfl (fun t => by rw [flush4 T t, Bool.true_or]) t.val (Nat.le_of_lt t.isLt)

/-! ## What a point leaves -/

/-- The output block a point leaves. -/
def left (c : Dev nD) (t : Fin (cfgT T).N) : S1024x1024.Idx → Elt Ideal .f32 :=
  if h : Used T t then
    out0_A_4 c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) h (used_not T t h)
  else
    out0_B_4 c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) h (unused_cond T t h)

theorem left_used (c : Dev nD) (t : Fin (cfgT T).N) (h : Used T t) : left T m c t = out0_A_4 c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) h (used_not T t h) := dif_pos h
theorem left_unused (c : Dev nD) (t : Fin (cfgT T).N) (h : ¬ Used T t) : left T m c t = out0_B_4 c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) h (unused_cond T t h) := dif_neg h

/-- The body keeps the table. -/
def Phi (c : Dev nD) (t : Fin ((cfgT T).N + 1)) : sProp 𝕄 :=
  iprop((tbM0_0.view.loc (c : Thread nD τ) ↦{fullShare.right} T.1))

/-- What the arrays hold at the start, and what each window's buffer holds after each point. -/
def dats (_ : Fin 1) (c : Dev nD) : Dat τ (Elt Ideal) Unit ℕ (UR sig nD τ) ℕ (cfgT T) c where
  A w := m (((cfgT T).win w).arr.view.loc (c : Thread nD τ))
  after w t := match w with
    | ⟨0, _⟩ => iblk T m c (0 : Fin 5) t
    | ⟨1, _⟩ => iblk T m c (1 : Fin 5) t
    | ⟨2, _⟩ => iblk T m c (2 : Fin 5) t
    | ⟨3, _⟩ => iblk T m c (3 : Fin 5) t
    | ⟨4, _⟩ => left T m c t
  Φ t := Phi T c t
  q _ := fullShare
  owed _ := 0

theorem after0_0 (c : Dev nD) (t : Fin (cfgT T).N) : (dats T m 0 c).after (0 : Fin 5) t = iblk T m c (0 : Fin 5) t := rfl
theorem after0_1 (c : Dev nD) (t : Fin (cfgT T).N) : (dats T m 0 c).after (1 : Fin 5) t = iblk T m c (1 : Fin 5) t := rfl
theorem after0_2 (c : Dev nD) (t : Fin (cfgT T).N) : (dats T m 0 c).after (2 : Fin 5) t = iblk T m c (2 : Fin 5) t := rfl
theorem after0_3 (c : Dev nD) (t : Fin (cfgT T).N) : (dats T m 0 c).after (3 : Fin 5) t = iblk T m c (3 : Fin 5) t := rfl
theorem after0_4 (c : Dev nD) (t : Fin (cfgT T).N) : (dats T m 0 c).after (4 : Fin 5) t = left T m c t := rfl

theorem before0_0 (c : Dev nD) (t : Fin (cfgT T).N) (d) : (dats T m 0 c).before (0 : Fin 5) t d = iblk T m c (0 : Fin 5) t :=
  ((dats T m 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgT T).N) (d) : (dats T m 0 c).before (1 : Fin 5) t d = iblk T m c (1 : Fin 5) t :=
  ((dats T m 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgT T).N) (d) : (dats T m 0 c).before (2 : Fin 5) t d = iblk T m c (2 : Fin 5) t :=
  ((dats T m 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgT T).N) (d) : (dats T m 0 c).before (3 : Fin 5) t d = iblk T m c (3 : Fin 5) t :=
  ((dats T m 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output's buffer holds anything when a point begins. -/
theorem before0_4 (c : Dev nD) (t : Fin (cfgT T).N) (d) : (dats T m 0 c).before (4 : Fin 5) t d = d := by
  rw [(dats T m 0 c).before_out_traj (4 : Fin 5) rfl (fun _ _ => rfl) (fun t _ hi _ => absurd hi (by rw [idle4]; decide)) t.val t rfl d,
    if_pos (fresh4 T t)]

/-! ## The body -/

/-- The body at a point. -/
abbrev bodyAt0 (t : Fin (cfgT T).N) : Prog (TpuEff nD τ sig (Elt Ideal) Λ₀ .tc) PUnit :=
  cc0_grouped_ffn (crd T t) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t)

set_option maxHeartbeats 4000000 in
/-- The body at a point takes the buffers from what they hold before it to what it leaves. -/
theorem sound_body (c : Dev nD) (t : Fin (cfgT T).N) :
    iprop((dats T m 0 c).Φ t.castSucc ∗ (dats T m 0 c).owesAt () t.castSucc
        ∗ (∃ d, owns (c : Thread nD τ) (ms0_0 T t) fullShare ((dats T m 0 c).before (0 : Fin 5) t d))
        ∗ (∃ d, owns (c : Thread nD τ) (ms0_1 T t) fullShare ((dats T m 0 c).before (1 : Fin 5) t d))
        ∗ (∃ d, owns (c : Thread nD τ) (ms0_2 T t) fullShare ((dats T m 0 c).before (2 : Fin 5) t d))
        ∗ (∃ d, owns (c : Thread nD τ) (ms0_3 T t) fullShare ((dats T m 0 c).before (3 : Fin 5) t d))
        ∗ (∃ d, owns (c : Thread nD τ) (ms0_4 T t) fullShare ((dats T m 0 c).before (4 : Fin 5) t d)))
      ⊢ wp frame (wpE (defs₀ (F := Ideal)) Variants.none c none) Set.univ (bodyAt0 T t) fun _ =>
          iprop((dats T m 0 c).Φ t.succ ∗ (dats T m 0 c).owesAt () t.succ
            ∗ bigSep Finset.univ fun w : Fin (cfgT T).W =>
                match (cfgT T).idle w ((cfgT T).grid.coords t) with
                | true =>
                  match ((cfgT T).win w).flush t with
                  | false => iprop(∃ d, owns (c : Thread nD τ) (((cfgT T).win w).stage ((cfgT T).slots t w)) fullShare ((dats T m 0 c).before w t d))
                  | true => owns (c : Thread nD τ) (((cfgT T).win w).stage ((cfgT T).slots t w)) fullShare ((dats T m 0 c).after w t)
                | false => owns (c : Thread nD τ) (((cfgT T).win w).stage ((cfgT T).slots t w)) fullShare ((dats T m 0 c).after w t)) := by
  rw [bigSep_W0]
  rewrite [idle4 T]
  simp only [before0_0, before0_1, before0_2, before0_3, before0_4, after0_0, after0_1, after0_2, after0_3, after0_4]
  rewrite [show (dats T m 0 c).Φ t.succ = Phi T c t.succ from rfl, show (dats T m 0 c).Φ t.castSucc = Phi T c t.castSucc from rfl,
    show (dats T m 0 c).owesAt () t.succ = (dats T m 0 c).owesAt () t.castSucc from rfl]
  unfold Phi
  by_cases q : Used T t
  · rewrite [left_used T m c t q]
    iintro ⟨HT0, Ho, ⟨%d0, H0⟩, ⟨%d1, H1⟩, ⟨%d2, H2⟩, ⟨%d3, H3⟩, ⟨%d4, H4⟩⟩
    iapply ((kernelRun0_A c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) q (used_not T t q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    iintro ⟨H0, H1, H2, H3, HT0, ⟨%e4, H4⟩⟩
    isplitl [HT0]; · iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _)
  · rewrite [left_unused T m c t q]
    iintro ⟨HT0, Ho, ⟨%d0, H0⟩, ⟨%d1, H1⟩, ⟨%d2, H2⟩, ⟨%d3, H3⟩, ⟨%d4, H4⟩⟩
    iapply ((kernelRun0_B c (crd T t) (ms0_0 T t) (hs0_0 T t) (ms0_1 T t) (hs0_1 T t) (ms0_2 T t) (hs0_2 T t) (ms0_3 T t) (hs0_3 T t) (ms0_4 T t) (hs0_4 T t) T.1 (iblk T m c 0 t) (iblk T m c 1 t) (iblk T m c 2 t) (iblk T m c 3 t) q (unused_cond T t q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    iintro ⟨H0, H1, H2, H3, HT0, ⟨%e4, H4⟩⟩
    isplitl [HT0]; · iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _)

/-- Memory holds the table. -/
def Holds : Prop := ∀ c : Dev nD, m ((c : Thread nD τ).loc main_arg1) = T.1

/-- So the body is sound at every point. -/
theorem body_obligation (c : Dev nD) : BodyObligation (dats T m 0 c) (defs₀ (F := Ideal)) Variants.none () Set.univ := fun t => by
  rw [bigSep_W0]
  exact sound_body T m c t

/-! ## The launch -/

/-- The resources of the launch. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgT T).W) : (dats T m 0 c).share w = fullShare := by unfold Dat.share; split <;> rfl

/-- What the launch hands the pipeline of the table. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0)) := by
  unfold Pipeline.prefHeld
  rw [show (Finset.univ : Finset (Fin 1)) = {(0 : Fin 1)} from by decide, bigSep_singleton]
  rfl

/-- What the body keeps at the first point, -/
theorem phi0_intro (c : Dev nD) :
    iprop(BI.emp ∗ Pipeline.prefHeld pre0 c (fun _ => fullShare.right) (adm T).1 ∗ Pipeline.scopedRest spec0 c) ⊢ (dats T m 0 c).Φ 0 := by
  rw [prefHeld_eq, scopedRest0_eq, show (dats T m 0 c).Φ 0 = Phi T c 0 from rfl]
  unfold Phi
  iintro ⟨-, ⟨HT0⟩, -⟩
  iexact HT0

/-- and what it gives back at the last. -/
theorem phiN_exit (c : Dev nD) : (dats T m 0 c).Φ (Fin.last (cfgT T).N) ⊢ iprop(BI.emp ∗ Pipeline.scopedRest spec0 c) := by
  rw [scopedRest0_eq, show (dats T m 0 c).Φ (Fin.last (cfgT T).N) = Phi T c (Fin.last _) from rfl]
  unfold Phi
  iintro ⟨-⟩
  isplitr; · iempintro
  iempintro

/-- How memory ends: each array as the pipeline computes it, the table as it was. -/
def QC : PUnit × MemSt nD τ sig (Elt Ideal) → Prop := fun r =>
  ∀ c : Dev nD, (∀ w : Fin (cfgT T).W, r.2.mem (((cfgT T).win w).arr.view.loc (c : Thread nD τ)) = (dats T m 0 c).arrAt w (cfgT T).N)
    ∧ ∀ j, r.2.mem ((c : Thread nD τ).loc (pre0.ref j)) = (adm T).1 j

theorem V_pre (hp : Holds T m) (c : Dev nD) (j : Fin 1) : m ((c : Thread nD τ).loc (pre0.ref j)) = (adm T).1 j := by
  fin_cases j
  · exact hp c

set_option backward.isDefEq.respectTransparency.types false in
set_option maxHeartbeats 4000000 in
/-- From a memory that holds the table, every execution ends with each array at what the pipeline computes and every
    semaphore counter at zero. -/
theorem run_main_quiescent (hp : Holds T m) : θ_run (defs (F := Ideal)) (onTc (τ := τ) (main (F := Ideal))) (start m ρ) (fun r => QC T m r ∧ r.2.sem = fun _ => 0) :=
  Pipeline.θ_run_region_noSem_pf_quiescent pcfgs (fun _ => adm T) (dats T m) () ((launch0 (F := Ideal)).cellOf_inj fun _ => adm T) (0 : Fin 1)
    (launch0 (F := Ideal)).win.to₀ (launch0 (F := Ideal)).pre EP defs₀ Variants.none m ρ main
    (hbody := fun c => (body_obligation T m c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m) 0 (launch0 (F := Ideal)).win.arr_inj c (launch0 (F := Ideal)).arr_whole
      (share_eq T m c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m)
    (hout := phiN_exit T m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same of the arrays alone. -/
theorem run_main (hp : Holds T m) : θ_run (defs (F := Ideal)) (onTc (τ := τ) (main (F := Ideal))) (start m ρ) (QC T m) :=
  (θ_run defs _ _).mono (fun _ h => h.1) (run_main_quiescent T m ρ hp)

/-- The arguments end as they were. -/
theorem unchanged (hp : Holds T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 (0 : Fin 5)).trans ((dats T m 0 c).arrAt_in (0 : Fin 5) rfl _), ((h c).2 0).trans (hp c).symm, ((h c).1 (1 : Fin 5)).trans ((dats T m 0 c).arrAt_in (1 : Fin 5) rfl _), ((h c).1 (2 : Fin 5)).trans ((dats T m 0 c).arrAt_in (2 : Fin 5) rfl _), ((h c).1 (3 : Fin 5)).trans ((dats T m 0 c).arrAt_in (3 : Fin 5) rfl _)⟩) (run_main T m ρ hp)

/-- Every execution ends, without fault, with the arguments as they were and every semaphore counter at zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged T m ρ hp) ((θ_run defs _ _).mono (fun _ h => h.2) (run_main_quiescent T m ρ hp))

end Cert.ExpertsIdeal.Run

end
-- ==== Proof.ExpertsTiles.lean ====
module

public import proofs.«01_k».proof.Proof.ExpertsIdealFrame
public import proofs.«01_k».proof.Proof.Rows
public import proofs.«01_k».proof.Proof.Tiles
public import Idealize.ShloMosaic.Lib.Pipeline.ValueKit

@[expose] public section

/-! The output block of one grid point of the grouped feed-forward kernel, read row by row. -/

set_option maxRecDepth 16384

noncomputable section

open Idealize.ShloMosaic Idealize.ShloMosaic.TcCoe Idealize.SL.Sem Cert.Rows

namespace Cert.ExpertsIdeal.Run

open Cert.ExpertsIdeal Cert.ExpertsIdeal.Gen

/-- What the body leaves where it multiplies: the gated network of each row of its first block, by the three weight blocks. -/
theorem multiplied_at (c : Dev nD) (i : grid0.Coords) (arg2 : Memref sig .tc .vmem S1024x1024 .f32) (harg2 : arg2.IsWhole)
    (arg3 : Memref sig .tc .vmem S1x1024x3584 .bf16) (harg3 : arg3.IsWhole) (arg4 : Memref sig .tc .vmem S1x1024x3584 .bf16)
    (harg4 : arg4.IsWhole) (arg5 : Memref sig .tc .vmem S1x3584x1024 .bf16) (harg5 : arg5.IsWhole)
    (arg6 : Memref sig .tc .vmem S1024x1024 .f32) (harg6 : arg6.IsWhole) (T0 : S136.Idx → Elt Ideal .i32)
    (x0 : FVec Ideal S1024x1024 .f32) (x1 x2 : FVec Ideal S1x1024x3584 .bf16) (x3 : FVec Ideal S1x3584x1024 .bf16) (h1) (h2)
    (y : S1024x1024.Idx) :
    out0_A_4 c i arg2 harg2 arg3 harg3 arg4 harg4 arg5 harg5 arg6 harg6 T0 x0 x1 x2 x3 h1 h2 y =
    swiglu (fun k => x0 (ix2 (y 0) k)) (fun k l => x1 (ix3 0 k l)) (fun k l => x2 (ix3 0 k l)) (fun k l => x3 (ix3 0 k l)) (y 1) := by
  unfold out0_A_4
  frame_out [View.read_rep]
  unfold swiglu
  rw [sum_seven]
  pointwise [k0_pay2, k0_pay3, k0_pay4, k0_pay5, k0_pay6, k0_pay7, k0_pay8, k0_pay9, k0_pay10, k0_pay11, k0_pay12, k0_pay13]
  simp only [gated, vecMul]

variable (T : Table) (m : (ℓ : Loc nD τ sig) → Buf (Elt Ideal) ℓ)

/-- A point whose entry names an expert leaves that expert's gated network of each row of its block. -/
theorem left_used_at (c : Dev nD) (t : Fin (cfgT T).N) (h : Used T t) (y : S1024x1024.Idx) : left T m c t y =
    swiglu (fun k => (show FVec Ideal S1024x1024 .f32 from iblk T m c 0 t) (ix2 (y 0) k))
      (fun k l => (show FVec Ideal S1x1024x3584 .bf16 from iblk T m c 1 t) (ix3 0 k l))
      (fun k l => (show FVec Ideal S1x1024x3584 .bf16 from iblk T m c 2 t) (ix3 0 k l))
      (fun k l => (show FVec Ideal S1x3584x1024 .bf16 from iblk T m c 3 t) (ix3 0 k l)) (y 1) := by
  rw [left_used T m c t h]
  exact multiplied_at ..

/-- A point whose entry names none leaves zeros. -/
theorem left_unused_at (c : Dev nD) (t : Fin (cfgT T).N) (h : ¬ Used T t) (y : S1024x1024.Idx) : left T m c t y = (0 : EReal) := by
  rw [left_unused T m c t h]
  unfold out0_B_4
  frame_out
  pointwise [k0_pay1]

end Cert.ExpertsIdeal.Run

end
-- ==== Proof.ExpertsValue.lean ====
module

public import proofs.«01_k».proof.Proof.ExpertsTiles

@[expose] public section

/-! The grouped feed-forward kernel over whole arrays: its result is a function of the argument arrays. -/

set_option maxRecDepth 16384

noncomputable section

open Idealize.ShloMosaic Idealize.ShloMosaic.TcCoe Idealize.SL.Sem Cert.Rows
open Idealize.ShloMosaic.Pipeline (Dat)

namespace Cert.ExpertsIdeal.Run

open Cert.ExpertsIdeal Cert.ExpertsIdeal.Gen

/-- The tile of 1024 rows that a row lies in. -/
def tileOf (r : Fin 139264) : Fin 136 := ⟨r.val / 1024, by omega⟩

/-- The expert whose weights a table entry takes: itself, or the last. -/
def expertOf (v : BitVec 32) : Fin 8 := ⟨min v.toNat 7, by omega⟩

/-- Expert `e`'s gated network of row `i 0`, at lane `i 1`. -/
def byExpert (xs : FVec Ideal S139264x1024 .f32) (w1 w3 : FVec Ideal S8x1024x3584 .bf16) (w2 : FVec Ideal S8x3584x1024 .bf16)
    (e : Fin 8) : S139264x1024.Idx → EReal := fun i =>
  swiglu (fun k => xs (ix2 (i 0) k)) (fun k l => w1 (ix3 e k l)) (fun k l => w3 (ix3 e k l)) (fun k l => w2 (ix3 e k l)) (i 1)

/-- The grouped network over whole arrays: each tile of 1024 rows goes through the expert its table entry names, and is zero
    where the entry names none. -/
def experts (xs : FVec Ideal S139264x1024 .f32) (te : S136.Idx → BitVec 32) (w1 w3 : FVec Ideal S8x1024x3584 .bf16)
    (w2 : FVec Ideal S8x3584x1024 .bf16) : S139264x1024.Idx → EReal := fun i =>
  if (te (ix1 (tileOf (i 0)))).toInt < 8 then byExpert xs w1 w3 w2 (expertOf (te (ix1 (tileOf (i 0))))) i else 0

variable (T : Table) (m : (ℓ : Loc nD τ sig) → Buf (Elt Ideal) ℓ)

/-- `experts` of the argument arrays of device `c`, the table given. -/
abbrev expertsOf (c : Dev nD) : S139264x1024.Idx → EReal :=
  experts (m ((c : Thread nD τ).loc main_arg0)) T.1 (m ((c : Thread nD τ).loc main_arg2)) (m ((c : Thread nD τ).loc main_arg3))
    (m ((c : Thread nD τ).loc main_arg4))

/-- The number of a point. -/
theorem crd_val : ∀ t : Fin grid0.N, (grid0.coords t 0).val = t.val := by decide +kernel

/-- The table's index a point reads. -/
theorem read_at : ∀ t : Fin grid0.N, ((Rect.unit (s := S136) (k0_off1 (grid0.coords t)) S1.size (k0_off1_inb (grid0.coords t))).emb
    (Shape.Idx.first (numel1_S1.symm ▸ Nat.one_pos)) 0).val = t.val := by decide +kernel

/-- The entry a point reads is the table's at the point's number. -/
theorem entry_eq (t : Fin (cfgT T).N) (r : Fin 136) (h : r.val = t.val) : entry T t = T.1 (ix1 r) := by
  refine congrArg T.1 (funext fun a => ?_)
  fin_cases a
  exact Fin.ext ((read_at t).trans h.symm)

/-- No entry is negative. -/
theorem entry_nonneg (t : Fin (cfgT T).N) : 0 ≤ (entry T t).toInt := T.2 _

/-- The body multiplies where the entry is below eight. -/
theorem used_iff (t : Fin (cfgT T).N) : Used T t ↔ (entry T t).toInt < 8 := by
  unfold Used k0_cond1
  dsimp only
  rw [ExpertsWords.slt_eight]
  split <;> rename_i h
  · exact ⟨fun _ => h, fun _ => by decide⟩
  · exact ⟨fun h' => absurd h' (by decide), fun h' => absurd h' h⟩

theorem idx4_points : ∀ t : Fin grid0.N, cc0_transform_4 (grid0.coords t) = ![t.val, 0] := by decide +kernel

/-- Point `t` writes rows `1024 t` to `1024 t + 1023`. -/
theorem idx4 (t : Fin (cfgT T).N) : ((cfgT T).win 4).index t = ![t.val, 0] := idx4_points t

/-- Where the body multiplies, it reads those rows too, -/
theorem idx0 (t : Fin (cfgT T).N) (h : Used T t) : ((cfgT T).win 0).index t = ![t.val, 0] := by
  show ![(Scalar.select (Scalar.cmpi .slt (entry T t) 8#32) (BitVec.ofNat 32 (grid0.coords t 0).val) 0#32).toNat, 0] = ![t.val, 0]
  rw [ExpertsWords.slt_eight, if_pos ((used_iff T t).1 h), crd_val]
  have := t.isLt
  have e : (Scalar.select 1#1 (BitVec.ofNat 32 t.val) 0#32) = BitVec.ofNat 32 t.val := rfl
  rw [e, BitVec.toNat_ofNat, Nat.mod_eq_of_lt (by have : t.val < 136 := t.isLt; omega)]

/-- and the weights of the entry's expert. -/
theorem idx1 (t : Fin (cfgT T).N) : ((cfgT T).win 1).index t = ![(expertOf (entry T t)).val, 0, 0] := by
  show ![(Scalar.minsi (entry T t) 7#32).toNat, 0, 0] = ![min (entry T t).toNat 7, 0, 0]
  rw [ExpertsWords.min_seven _ (entry_nonneg T t)]
theorem idx2 (t : Fin (cfgT T).N) : ((cfgT T).win 2).index t = ![(expertOf (entry T t)).val, 0, 0] := by
  show ![(Scalar.minsi (entry T t) 7#32).toNat, 0, 0] = ![min (entry T t).toNat 7, 0, 0]
  rw [ExpertsWords.min_seven _ (entry_nonneg T t)]
theorem idx3 (t : Fin (cfgT T).N) : ((cfgT T).win 3).index t = ![(expertOf (entry T t)).val, 0, 0] := by
  show ![(Scalar.minsi (entry T t) 7#32).toNat, 0, 0] = ![min (entry T t).toNat 7, 0, 0]
  rw [ExpertsWords.min_seven _ (entry_nonneg T t)]

/-- The blocks written back cover the result. -/
theorem covers4 : ((cfgT T).win 4).Covers := by
  refine ⟨fun a => (by decide : ∀ a : Fin 2, 0 < S1024x1024.size a) a, fun β => ?_⟩
  have h0 : (β (0 : Fin 2)).val < 136 := (Nat.lt_of_lt_of_eq (β (0 : Fin 2)).isLt
    (by decide : (S139264x1024.size 0 + S1024x1024.size 0 - 1) / S1024x1024.size 0 = 136))
  have h1 : (β (1 : Fin 2)).val < 1 := (Nat.lt_of_lt_of_eq (β (1 : Fin 2)).isLt
    (by decide : (S139264x1024.size 1 + S1024x1024.size 1 - 1) / S1024x1024.size 1 = 1))
  refine ⟨⟨(β (0 : Fin 2)).val, h0⟩, flush4 T _, fun a => ⟨?_, .inl rfl⟩⟩
  rw [idx4]
  revert a
  show ∀ a : Fin 2, _
  intro a
  fin_cases a
  · rfl
  · exact (by omega : 0 = (β (1 : Fin 2)).val)

/-- What a point leaves is `experts` of the arguments, at the rows the point writes. -/
theorem point_at (c : Dev nD) (t : Fin (cfgT T).N) (y : S1024x1024.Idx) :
    left T m c t y = expertsOf T m c ((((cfgT T).win 4).blk t).view.emb y) := by
  have h0 : (y 0).val < 1024 := (y 0).isLt
  have ht : t.val < 136 := t.isLt
  have hr : 1024 * t.val + (y 0).val < 139264 := by omega
  have e : ix2 (⟨1024 * t.val + (y 0).val, hr⟩ : Fin 139264) (y 1) = (((cfgT T).win 4).blk t).view.emb y := by
    blk_ext [idx4 T t]
  have hE : entry T t = T.1 (ix1 (tileOf ⟨1024 * t.val + (y 0).val, hr⟩)) :=
    entry_eq T t _ (by show (1024 * t.val + (y 0).val) / 1024 = t.val; omega)
  refine Eq.trans ?_ (congrArg (expertsOf T m c) e)
  show left T m c t y = if (T.1 (ix1 (tileOf ⟨1024 * t.val + (y 0).val, hr⟩))).toInt < 8 then
    byExpert _ _ _ _ (expertOf (T.1 (ix1 (tileOf ⟨1024 * t.val + (y 0).val, hr⟩)))) (ix2 ⟨1024 * t.val + (y 0).val, hr⟩ (y 1)) else 0
  rw [← hE]
  by_cases h : Used T t
  · rw [if_pos ((used_iff T t).1 h)]
    refine (left_used_at T m c t h y).trans ?_
    simp only [byExpert, swiglu, gated, vecMul]
    blk_point [iblk, idx0 T t h, idx1 T t, idx2 T t, idx3 T t, idx4 T t]
  · rw [if_neg fun h' => h ((used_iff T t).2 h')]
    exact left_unused_at T m c t h y

/-- The result is `experts` of the arguments. -/
theorem final4 (c : Dev nD) : (dats T m 0 c).arrAt 4 (cfgT T).N = expertsOf T m c := by
  refine (dats T m 0 c).arrAt_eq_of_covers 4 _ (covers4 T) fun t _ y => ?_
  blk_simp
  rw [after0_4]
  exact point_at T m c t y

end Cert.ExpertsIdeal.Run

end
-- ==== Proof.ExpertsRef.lean ====
module

public import proofs.«01_k».proof.Proof.Gen.ExpertsRefIdeal.Read
public import proofs.«01_k».proof.Proof.ExpertsValue

@[expose] public section

/-! The reference of the grouped feed-forward network: its result is the same function of the arguments. -/

set_option maxRecDepth 16384

noncomputable section

open Idealize.ShloMosaic Idealize.ShloMosaic.TcCoe Idealize.SL.Sem Cert.Rows

namespace Cert.ExpertsRefIdeal.Same

open Cert.ExpertsRefIdeal Cert.ExpertsRefIdeal.Gen

open Cert.ExpertsRefIdeal.Read Cert.ExpertsIdeal.Run

/-- Column `e` of the one-hot row of a table entry. -/
def hot (v : BitVec 32) (e : Fin 8) : EReal := FloatOps.uitofp (F := Ideal) .f32 (IntOp.cmpi .eq v (BitVec.ofNat 32 e.val))

/-- It is one where the entry is `e`, else zero. -/
theorem hot_eq (v : BitVec 32) (e : Fin 8) : hot v e = if v.toNat = e.val then 1 else 0 := by
  have he : (BitVec.ofNat 32 e.val).toNat = e.val := by rw [BitVec.toNat_ofNat]; omega
  unfold hot
  simp only [IntOp.cmpi]
  by_cases h : v.toNat = e.val
  · have : v = BitVec.ofNat 32 e.val := BitVec.eq_of_toNat_eq (h.trans he.symm)
    rw [if_pos h, this]
    simp [FloatOps.uitofp]
  · have : v ≠ BitVec.ofNat 32 e.val := fun h' => h (by rw [h', he])
    rw [if_neg h]
    simp [FloatOps.uitofp, this]

/-- A sum of eight. -/
theorem eight (g : Fin 8 → EReal) : ∑ j, g j = g 0 + g 1 + g 2 + g 3 + g 4 + g 5 + g 6 + g 7 := by
  simp only [Fin.sum_univ_castSucc, Fin.sum_univ_zero, zero_add]; rfl

/-- A natural entry below eight as an integer is below eight as a natural number. -/
theorem below_eight (v : BitVec 32) (h : 0 ≤ v.toInt) : v.toInt < 8 ↔ v.toNat < 8 := by
  rw [BitVec.toInt_eq_toNat_cond] at h ⊢
  split at h <;> rename_i h' <;> simp only [h', if_true, if_false] <;> omega

/-- The one-hot sum takes the entry's term, or none. -/
theorem hot_sum (v : BitVec 32) (h : 0 ≤ v.toInt) (f : Fin 8 → EReal) :
    ∑ e, hot v e * f e = if v.toInt < 8 then f (expertOf v) else 0 := by
  simp only [hot_eq]
  split <;> rename_i h'
  · have hv := (below_eight v h).1 h'
    have he : (expertOf v).val = v.toNat := Nat.min_eq_left (by omega)
    rw [Finset.sum_eq_single (expertOf v) (fun e _ hne => ?_) (fun hn => absurd (Finset.mem_univ _) hn)]
    · rw [if_pos he.symm, one_mul]
    · rw [if_neg (fun hq => hne (Fin.ext (hq.symm.trans he.symm))), zero_mul]
  · have hv : ¬ v.toNat < 8 := fun hq => h' ((below_eight v h).2 hq)
    refine Finset.sum_eq_zero fun e _ => ?_
    rw [if_neg (by omega), zero_mul]

/-- The reference's result at an index: the eight experts' rows, each times its column of the one-hot row, summed. -/
theorem summed (x0 : FVec Ideal S139264x1024 .f32) (x1 : S136.Idx → BitVec 32) (x2 x3 : FVec Ideal S8x1024x3584 .bf16)
    (x4 : FVec Ideal S8x3584x1024 .bf16) (i : S139264x1024.Idx) :
    val_main_v126 (F := Ideal) x0 x1 x2 x3 x4 i = ∑ e, hot (x1 (ix1 (tileOf (i 0)))) e * byExpert x0 x2 x3 x4 e i := by
  idx_vars i
  rw [eight]
  pointwise [    val_main_v0, val_main_v1, val_main_v2, val_main_v3, val_main_v4, val_main_call0_v0, val_main_call0_v1,
    val_main_call0_v2, val_main_call0_v3, val_main_call0_v4, val_main_v5, val_main_cst, val_main_v6, val_main_v7,
    val_main_v8, val_main_v9, val_main_v10, val_main_v11, val_main_v12, val_main_v13, val_main_v14, val_main_call1_v0,
    val_main_call1_v1, val_main_call1_cst, val_main_call1_v2, val_main_call1_v3, val_main_call1_cst_0, val_main_call1_v4,
    val_main_call1_v5, val_main_v15, val_main_v16, val_main_v17, val_main_v18, val_main_v19, val_main_v20, val_main_v21,
    val_main_v22, val_main_v23, val_main_v24, val_main_v25, val_main_v26, val_main_v27, val_main_v28, val_main_v29,
    val_main_call2_v0, val_main_call2_v1, val_main_call2_cst, val_main_call2_v2, val_main_call2_v3, val_main_call2_cst_0,
    val_main_call2_v4, val_main_call2_v5, val_main_v30, val_main_v31, val_main_v32, val_main_v33, val_main_v34,
    val_main_v35, val_main_v36, val_main_v37, val_main_v38, val_main_v39, val_main_v40, val_main_v41, val_main_v42,
    val_main_v43, val_main_v44, val_main_call3_v0, val_main_call3_v1, val_main_call3_cst, val_main_call3_v2,
    val_main_call3_v3, val_main_call3_cst_0, val_main_call3_v4, val_main_call3_v5, val_main_v45, val_main_v46,
    val_main_v47, val_main_v48, val_main_v49, val_main_v50, val_main_v51, val_main_v52, val_main_v53, val_main_v54,
    val_main_v55, val_main_v56, val_main_v57, val_main_v58, val_main_v59, val_main_call4_v0, val_main_call4_v1,
    val_main_call4_cst, val_main_call4_v2, val_main_call4_v3, val_main_call4_cst_0, val_main_call4_v4, val_main_call4_v5,
    val_main_v60, val_main_v61, val_main_v62, val_main_v63, val_main_v64, val_main_v65, val_main_v66, val_main_v67,
    val_main_v68, val_main_v69, val_main_v70, val_main_v71, val_main_v72, val_main_v73, val_main_v74, val_main_call5_v0,
    val_main_call5_v1, val_main_call5_cst, val_main_call5_v2, val_main_call5_v3, val_main_call5_cst_0, val_main_call5_v4,
    val_main_call5_v5, val_main_v75, val_main_v76, val_main_v77, val_main_v78, val_main_v79, val_main_v80, val_main_v81,
    val_main_v82, val_main_v83, val_main_v84, val_main_v85, val_main_v86, val_main_v87, val_main_v88, val_main_v89,
    val_main_call6_v0, val_main_call6_v1, val_main_call6_cst, val_main_call6_v2, val_main_call6_v3, val_main_call6_cst_0,
    val_main_call6_v4, val_main_call6_v5, val_main_v90, val_main_v91, val_main_v92, val_main_v93, val_main_v94,
    val_main_v95, val_main_v96, val_main_v97, val_main_v98, val_main_v99, val_main_v100, val_main_v101, val_main_v102,
    val_main_v103, val_main_v104, val_main_call7_v0, val_main_call7_v1, val_main_call7_cst, val_main_call7_v2,
    val_main_call7_v3, val_main_call7_cst_0, val_main_call7_v4, val_main_call7_v5, val_main_v105, val_main_v106,
    val_main_v107, val_main_v108, val_main_v109, val_main_v110, val_main_v111, val_main_v112, val_main_v113,
    val_main_v114, val_main_v115, val_main_v116, val_main_v117, val_main_v118, val_main_v119, val_main_call8_v0,
    val_main_call8_v1, val_main_call8_cst, val_main_call8_v2, val_main_call8_v3, val_main_call8_cst_0, val_main_call8_v4,
    val_main_call8_v5, val_main_v120, val_main_v121, val_main_v122, val_main_v123, val_main_v124, val_main_v125,
    val_main_v126]
  simp only [byExpert, swiglu, gated, vecMul, Ideal.logistic]
  rfl

/-- The reference's result is `experts` of its arguments, where no table entry is negative. -/
theorem res0 (x0 : FVec Ideal S139264x1024 .f32) (x1 : S136.Idx → BitVec 32) (x2 x3 : FVec Ideal S8x1024x3584 .bf16)
    (x4 : FVec Ideal S8x3584x1024 .bf16) (h : ∀ x, 0 ≤ (x1 x).toInt) :
    val_main_v126 (F := Ideal) x0 x1 x2 x3 x4 = experts x0 x1 x2 x3 x4 := by
  funext i
  rw [summed, hot_sum _ (h _)]
  rfl

end Cert.ExpertsRefIdeal.Same

end
-- ==== Proof.ExpertsClaims.lean ====
module

public import proofs.«01_k».proof.Defs
public import proofs.«01_k».proof.Proof.Gen.Pre_used_experts
public import proofs.«01_k».proof.Proof.ExpertsFrame
public import proofs.«01_k».proof.Proof.ExpertsRef
public import Idealize.ShloMosaic.Lib.Claim
public import Idealize.ShloMosaic.Lib.Quiescent

@[expose] public section

/-! The claims about the grouped feed-forward kernel. -/

set_option maxRecDepth 16384

noncomputable section

open Idealize.ShloMosaic Idealize.ShloMosaic.TcCoe Idealize.SL.Sem

namespace Cert.ExpertsClaims

/-- Where `used_experts` holds of the arguments, memory holds a table without negative entries. -/
theorem table (m : (ℓ : Loc Cert.Experts.nD Cert.Experts.τ Cert.Experts.sig) → Buf (Elt Bits) ℓ) (h : Cert.Pre_Experts m) :
    ∃ T : Cert.Experts.Run.Table, Cert.Experts.Run.Holds T m :=
  ⟨⟨m (((0 : Dev Cert.Experts.nD).tc : Thread Cert.Experts.nD Cert.Experts.τ).loc Cert.Experts.main_arg1),
    fun x => ExpertsWords.sge_zero _ (congrFun (h 0) x)⟩, fun c => by rw [Subsingleton.elim c 0]⟩

/-- Where `used_experts` holds of the arguments, memory holds a table without negative entries. -/
theorem tableIdeal (m : (ℓ : Loc Cert.ExpertsIdeal.nD Cert.ExpertsIdeal.τ Cert.ExpertsIdeal.sig) → Buf (Elt Ideal) ℓ) (h : Cert.Pre_ExpertsIdeal m) :
    ∃ T : Cert.ExpertsIdeal.Run.Table, Cert.ExpertsIdeal.Run.Holds T m :=
  ⟨⟨m (((0 : Dev Cert.ExpertsIdeal.nD).tc : Thread Cert.ExpertsIdeal.nD Cert.ExpertsIdeal.τ).loc Cert.ExpertsIdeal.main_arg1),
    fun x => ExpertsWords.sge_zero _ (congrFun (h 0) x)⟩, fun c => by rw [Subsingleton.elim c 0]⟩

/-- The kernel runs to the end and leaves its arguments alone. -/
theorem frame : Cert.quiescent_Experts := fun m ρ h => by
  obtain ⟨T, hT⟩ := table m h
  exact Cert.Experts.Run.frame T m ρ hT

/-- So does the kernel over the reals. -/
theorem frameIdeal : Cert.quiescent_ExpertsIdeal := fun m ρ h => by
  obtain ⟨T, hT⟩ := tableIdeal m h
  exact Cert.ExpertsIdeal.Run.frame T m ρ hT

/-- The reference runs to the end and leaves its arguments alone. -/
theorem frameRef : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The kernel over the reals is the kernel's own text. -/
theorem preserves : Cert.preserves_Experts_ExpertsIdeal := trivial

/-- The reference's result, where the arguments are those of the kernel. -/
theorem result (m : (ℓ : Loc Cert.ExpertsIdeal.nD Cert.ExpertsIdeal.τ Cert.ExpertsIdeal.sig) → Buf (Elt Ideal) ℓ)
    (T : Cert.ExpertsIdeal.Run.Table) (hT : Cert.ExpertsIdeal.Run.Holds T m) (c : Dev Cert.ExpertsIdeal.nD) :
    Cert.ExpertsRefIdeal.Read.val_main_v126 (F := Ideal)
      (m ((c.tc : Thread Cert.ExpertsIdeal.nD Cert.ExpertsIdeal.τ).loc Cert.ExpertsIdeal.main_arg0))
      (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg2))
      (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4))
    = Cert.ExpertsIdeal.Run.expertsOf T m c := by
  rw [hT c]
  exact Cert.ExpertsRefIdeal.Same.res0 _ _ _ _ _ T.2

/-- Over the reals the result of the kernel is that of the reference. -/
theorem algebraic : Cert.algebraic_ExpertsIdeal_ExpertsRefIdeal := by
  intro m g m' g' hpre hagree
  obtain ⟨T, hT⟩ := tableIdeal m hpre
  refine ⟨fun c => Cert.ExpertsIdeal.Run.expertsOf T m c, ?_, ?_⟩
  · exact (θ_run Cert.ExpertsIdeal.defs _ _).mono
      (fun r h c => ⟨((h.1 c).1 4).trans (Cert.ExpertsIdeal.Run.final4 T m c), h.2 c⟩)
      (θ_run_and (Cert.ExpertsIdeal.Run.run_main T m g hT) (Cert.ExpertsIdeal.Run.unchanged T m g hT))
  · refine (θ_run Cert.ExpertsRefIdeal.defs _ _).mono (fun r h c =>
      ⟨((h c).1.trans (Cert.ExpertsRefIdeal.Read.val_main_v126_eq (F := Ideal) (StableHlo.launchContents m' c))).trans ?_, (h c).2⟩)
      (Cert.ExpertsRefIdeal.Value.run (F := Ideal) m' g')
    obtain ⟨h0, h1, h2, h3, h4⟩ := hagree c
    refine Eq.trans ?_ (result m T hT c)
    rw [← h0, ← h1, ← h2, ← h3, ← h4]

end Cert.ExpertsClaims

end
-- ==== Proof.Choice.lean ====
module

public import Idealize.ShloMosaic.Lib.SortFacts
public import Idealize.ShloMosaic.Lib.Pipeline.ValueKit

@[expose] public section

/-! The two largest of eight values, as a stable sort by decreasing value finds them: the sort's first two positions. -/

noncomputable section

open Idealize.ShloMosaic

namespace Cert.Choice

/-! ## A stable sort by decreasing value -/

/-- The comparison of the sort: position `k` holds a larger value than position `k'`. -/
def larger (l : Fin 8 → EReal) (k k' : Fin 8) : Bool := FloatOps.cmpfTotal (F := Ideal) (φ := .f32) .gt (l k) (l k') == 1#1

theorem larger_iff (l : Fin 8 → EReal) (k k' : Fin 8) : larger l k k' = true ↔ l k' < l k := by
  unfold larger
  rw [Ideal.cmpfTotal_def]
  by_cases h : l k' < l k <;> simp [Ideal.cmp, CmpDirection.ordered, h]

/-- `a` stands before `b`: its value is larger, or the same at an earlier position. -/
def Leads (l : Fin 8 → EReal) (a b : Fin 8) : Prop := l b < l a ∨ (l a = l b ∧ a < b)

theorem Leads.le {l : Fin 8 → EReal} {a b : Fin 8} (h : Leads l a b) : l b ≤ l a := by
  rcases h with h | h
  · exact h.le
  · exact h.1.ge

/-- Putting an earlier position into a list in order leaves it in order. -/
theorem insert_leads (l : Fin 8 → EReal) (a : Fin 8) (ps : List (Fin 8)) (hpos : ∀ b ∈ ps, a < b)
    (hps : ps.Pairwise (Leads l)) : (insertBefore (larger l) a ps).Pairwise (Leads l) := by
  induction ps with
  | nil => simp [insertBefore]
  | cons b ps ih =>
    have hb := List.pairwise_cons.mp hps
    by_cases hlt : l a < l b
    · rw [insertBefore, if_pos ((larger_iff l b a).mpr hlt)]
      refine List.pairwise_cons.mpr ⟨fun x hx => ?_, ih (fun x hx => hpos x (List.mem_cons_of_mem _ hx)) hb.2⟩
      rcases List.mem_cons.mp ((perm_insertBefore _ a ps).mem_iff.mp hx) with e | hx
      · exact e ▸ Or.inl hlt
      · exact hb.1 x hx
    · rw [insertBefore, if_neg (fun h => hlt ((larger_iff l b a).mp h))]
      refine List.pairwise_cons.mpr ⟨fun x hx => ?_, hps⟩
      have hx' : l x ≤ l a := by
        rcases List.mem_cons.mp hx with e | hx
        · exact e ▸ not_lt.mp hlt
        · exact (hb.1 x hx).le.trans (not_lt.mp hlt)
      rcases hx'.lt_or_eq with h | h
      · exact Or.inl h
      · exact Or.inr ⟨h.symm, hpos x hx⟩

theorem sort_leads (l : Fin 8 → EReal) (ps : List (Fin 8)) (h : ps.Pairwise (· < ·)) :
    (stableSort (larger l) ps).Pairwise (Leads l) := by
  induction ps with
  | nil => simp [stableSort]
  | cons a ps ih =>
    have ha := List.pairwise_cons.mp h
    exact insert_leads l a _ (fun b hb => ha.1 b ((perm_stableSort _ ps).mem_iff.mp hb)) (ih ha.2)

/-- The position whose value the sort puts at place `k`. -/
def place (l : Fin 8 → EReal) (k : Fin 8) : Fin 8 := sortedFrom (larger l) k

theorem place_leads (l : Fin 8 → EReal) (k k' : Fin 8) (h : k < k') : Leads l (place l k) (place l k') :=
  List.pairwise_iff_get.mp (sort_leads l _ (List.pairwise_lt_finRange 8)) _ _ h

/-- Place 0 stands before every other position. -/
theorem place0_leads (l : Fin 8 → EReal) (e : Fin 8) (h : e ≠ place l 0) : Leads l (place l 0) e := by
  obtain ⟨k, rfl⟩ := sortedFrom_surjective (larger l) e
  refine place_leads l 0 k (Fin.pos_of_ne_zero fun hk => h ?_)
  rw [hk]; rfl

/-- Place 1 stands before every position but place 0. -/
theorem place1_leads (l : Fin 8 → EReal) (e : Fin 8) (h0 : e ≠ place l 0) (h1 : e ≠ place l 1) :
    Leads l (place l 1) e := by
  obtain ⟨k, rfl⟩ := sortedFrom_surjective (larger l) e
  refine place_leads l 1 k ?_
  have e0 : k ≠ 0 := fun hk => h0 (by rw [hk]; rfl)
  have e1 : k ≠ 1 := fun hk => h1 (by rw [hk]; rfl)
  rw [Fin.lt_def]
  have a0 : k.val ≠ 0 := fun hk => e0 (Fin.ext hk)
  have a1 : k.val ≠ 1 := fun hk => e1 (Fin.ext hk)
  change 1 < k.val
  omega

theorem place_ne (l : Fin 8 → EReal) : place l 1 ≠ place l 0 := fun h =>
  absurd (sortedFrom_injective (larger l) h) (by decide)

/-! ## The same two positions among 128 lanes, of which the first eight hold the values -/

/-- A fold whose operation a value of the set absorbs is that value. -/
theorem fold_absorbed {ι β : Type} [DecidableEq ι] (op : β → β → β) [Std.Commutative op] [Std.Associative op] (b : β)
    (f : ι → β) (s : Finset ι) (i : ι) (hi : i ∈ s) (h : ∀ x ∈ s, op (f i) (f x) = f i) (hb : op (f i) b = f i) :
    s.fold op b f = f i := by
  have key : ∀ r : Finset ι, (∀ x ∈ r, op (f i) (f x) = f i) → op (f i) (r.fold op b f) = f i := by
    intro r
    induction r using Finset.induction_on with
    | empty => intro _; rw [Finset.fold_empty]; exact hb
    | insert x r hx ih =>
      intro hr
      rw [Finset.fold_insert hx, ← Std.Associative.assoc (op := op), hr x (Finset.mem_insert_self ..)]
      exact ih fun y hy => hr y (Finset.mem_insert_of_mem hy)
  rw [← Finset.insert_erase hi, Finset.fold_insert (s.notMem_erase i)]
  exact key _ fun x hx => h x (Finset.mem_of_mem_erase hx)

/-- The values on the lanes: `⊥` from lane 8 on. -/
def lanes (l : Fin 8 → EReal) (j : Fin 128) : EReal := if h : j.val < 8 then l ⟨j.val, h⟩ else ⊥

/-- The values on the lanes without that of place 0. -/
def lanes' (l : Fin 8 → EReal) (j : Fin 128) : EReal := if j.val = (place l 0).val then ⊥ else lanes l j

theorem lanes_of (l : Fin 8 → EReal) (e : Fin 8) : lanes l (e.castLE (by decide)) = l e := dif_pos e.isLt

theorem lanes_le (l : Fin 8 → EReal) (j : Fin 128) : lanes l j ≤ l (place l 0) := by
  unfold lanes
  split
  · rename_i h
    by_cases e : (⟨j.val, h⟩ : Fin 8) = place l 0
    · rw [e]
    · exact (place0_leads l _ e).le
  · exact bot_le

theorem lanes'_of (l : Fin 8 → EReal) : lanes' l ((place l 1).castLE (by decide)) = l (place l 1) := by
  unfold lanes'
  exact (if_neg fun h => place_ne l (Fin.ext h)).trans (lanes_of l _)

theorem lanes'_le (l : Fin 8 → EReal) (j : Fin 128) : lanes' l j ≤ l (place l 1) := by
  unfold lanes' lanes
  split
  · exact bot_le
  · rename_i h0
    split
    · rename_i h
      by_cases e : (⟨j.val, h⟩ : Fin 8) = place l 1
      · rw [e]
      · exact (place1_leads l _ (fun c => h0 (congrArg Fin.val c)) e).le
    · exact bot_le

/-- No lane before place 0's holds its value. -/
theorem lanes_first (l : Fin 8 → EReal) (hl : ∀ e, l e ≠ ⊥) (j : Fin 128) (h : lanes l j = l (place l 0)) :
    (place l 0).castLE (by decide) ≤ j := by
  unfold lanes at h
  split at h
  · rename_i hj
    by_cases e : (⟨j.val, hj⟩ : Fin 8) = place l 0
    · exact (Fin.le_def.mpr (congrArg Fin.val e).ge)
    · rcases place0_leads l _ e with c | c
      · exact absurd h c.ne
      · exact Fin.le_def.mpr (Fin.lt_def.mp c.2).le
  · exact absurd h.symm (hl _)

/-- No other lane before place 1's holds its value. -/
theorem lanes'_first (l : Fin 8 → EReal) (hl : ∀ e, l e ≠ ⊥) (j : Fin 128) (h : lanes' l j = l (place l 1)) :
    (place l 1).castLE (by decide) ≤ j := by
  unfold lanes' lanes at h
  split at h
  · exact absurd h.symm (hl _)
  · rename_i h0
    split at h
    · rename_i hj
      by_cases e : (⟨j.val, hj⟩ : Fin 8) = place l 1
      · exact (Fin.le_def.mpr (congrArg Fin.val e).ge)
      · rcases place1_leads l _ (fun c => h0 (congrArg Fin.val c)) e with c | c
        · exact absurd h c.ne
        · exact Fin.le_def.mpr (Fin.lt_def.mp c.2).le
    · exact absurd h.symm (hl _)

/-- The largest lane is place 0's. -/
theorem max_lanes (l : Fin 8 → EReal) : Finset.univ.fold max ⊥ (lanes l) = l (place l 0) := by
  rw [← lanes_of l (place l 0)]
  refine fold_absorbed _ _ _ _ _ (Finset.mem_univ _) (fun x _ => ?_) (max_eq_left bot_le)
  rw [lanes_of]; exact max_eq_left (lanes_le l x)

/-- The largest of the other lanes is place 1's. -/
theorem max_lanes' (l : Fin 8 → EReal) : Finset.univ.fold max ⊥ (lanes' l) = l (place l 1) := by
  rw [← lanes'_of l]
  refine fold_absorbed _ _ _ _ _ (Finset.mem_univ _) (fun x _ => ?_) (max_eq_left bot_le)
  rw [lanes'_of]; exact max_eq_left (lanes'_le l x)

/-- The smaller of two words of small numbers. -/
theorem minsi_small (a b : ℕ) (hb : b ≤ 128) (h : a ≤ b) :
    IntOp.minsi (BitVec.ofNat 32 a) (BitVec.ofNat 32 b) = BitVec.ofNat 32 a := by
  have e : (BitVec.ofNat 32 b).slt (BitVec.ofNat 32 a) = false := by
    simp only [BitVec.slt, BitVec.toInt_ofNat', decide_eq_false_iff_not, not_lt]
    norm_num [Int.bmod]
    omega
  unfold IntOp.minsi
  split
  · rfl
  · rename_i h'
    by_cases hab : a = b
    · rw [hab]
    · exfalso
      apply h'
      simp only [BitVec.slt, BitVec.toInt_ofNat', decide_eq_true_eq]
      norm_num [Int.bmod]
      omega

end Cert.Choice

end
-- ==== Proof.RouteSpec.lean ====
module

public import proofs.«01_k».proof.Proof.Choice

@[expose] public section

/-! The choice of two experts for every token, over whole arrays: the record of each token and the counts of each expert. -/

noncomputable section

open Idealize.ShloMosaic Cert.Choice

namespace Cert.Routing

/-- One where the lane is one of a token's two experts. -/
def mark (i j n : ℕ) : EReal := if n = i ∨ n = j then 1 else 0

/-- A token's row of the record: its two experts, their weights and their ranks on the first six lanes. -/
def entry (i1 i2 : BitVec 32) (w1 w2 r1 r2 : EReal) (j : ℕ) : EReal :=
  if j = 5 then r2 else if j = 4 then r1 else if j = 3 then w2 else if j = 2 then w1
  else if j = 1 then FloatOps.sitofp (F := Ideal) .f32 i2 else if j = 0 then FloatOps.sitofp (F := Ideal) .f32 i1 else 0

/-- A sum over the positions below a bound. -/
theorem sum_below {N : ℕ} (g : ℕ → EReal) (r : ℕ) (hr : r ≤ N) :
    (∑ s : Fin N, if s.val < r then g s.val else 0) = ∑ s ∈ Finset.range r, g s := by
  rw [Fin.sum_univ_eq_sum_range (fun s => if s < r then g s else 0) N, ← Finset.sum_filter]
  refine Finset.sum_congr (Finset.ext fun s => ?_) fun _ _ => rfl
  rw [Finset.mem_filter, Finset.mem_range, Finset.mem_range]
  omega

variable (h : (⟨2, ![65536, 1024]⟩ : Shape).Idx → EReal) (w : (⟨2, ![1024, 8]⟩ : Shape).Idx → EReal)

/-- Token `n`'s logit of expert `e`. -/
def logit (n : ℕ) (e : Fin 8) : EReal :=
  ∑ k : Fin 1024, h (ix2 ⟨n % 65536, Nat.mod_lt _ (by decide)⟩ k) * w (ix2 k e)

/-- The expert of token `n` with the largest logit. -/
def first (n : ℕ) : Fin 8 := place (logit h w n) 0

/-- The expert of token `n` with the second largest logit. -/
def second (n : ℕ) : Fin 8 := place (logit h w n) 1

/-- The second expert's exponential relative to the first's. -/
def ratio (n : ℕ) : EReal := Ideal.exp (logit h w n (second h w n) - logit h w n (first h w n))

/-- How many tokens before token `n` have expert `j`. -/
def rank (n j : ℕ) : EReal := ∑ s ∈ Finset.range n, mark (first h w s).val (second h w s).val j

/-- Token `n`'s row. -/
def record (n j : ℕ) : EReal :=
  entry (BitVec.ofNat 32 (first h w n).val) (BitVec.ofNat 32 (second h w n).val)
    (Ideal.div 1 (1 + ratio h w n)) (Ideal.div (ratio h w n) (1 + ratio h w n))
    (rank h w n (first h w n).val) (rank h w n (second h w n).val) j

/-- Counting `m` more tokens. -/
theorem rank_add (n m j : ℕ) :
    rank h w (n + m) j = rank h w n j + ∑ s ∈ Finset.range m, mark (first h w (n + s)).val (second h w (n + s)).val j :=
  Finset.sum_range_add _ n m

end Cert.Routing

end
-- ==== Proof.RouteBlock.lean ====
module

public import proofs.«01_k».proof.Proof.Gen.RouteIdeal.Value
public import proofs.«01_k».proof.Proof.RouteSpec
public import Idealize.ShloMosaic.Lib.Pipeline.ValueKit

@[expose] public section

/-! What the choice of experts computes from one block of 512 tokens: the two chosen experts, their weights, their ranks and the counts. -/

set_option maxRecDepth 16384

noncomputable section

open Idealize.ShloMosaic Idealize.ShloMosaic.TcCoe Idealize.SL.Sem Cert.Choice Cert.Routing

namespace Cert.RouteIdeal.Block

open Cert.RouteIdeal Cert.RouteIdeal.Gen

/-- A value that is a real number. -/
def IsReal (x : EReal) : Prop := ∃ a : ℝ, x = (a : EReal)

theorem IsReal.sub_self {x : EReal} (h : IsReal x) : x - x = 0 := by
  obtain ⟨a, rfl⟩ := h
  rw [← EReal.coe_sub, _root_.sub_self, EReal.coe_zero]

theorem IsReal.ne_bot {x : EReal} (h : IsReal x) : x ≠ ⊥ := by
  obtain ⟨a, rfl⟩ := h
  exact EReal.coe_ne_bot a

theorem IsReal.dot {n : ℕ} (u v : Fin n → EReal) (hu : ∀ k, IsReal (u k)) (hv : ∀ k, IsReal (v k)) :
    IsReal (∑ k, u k * v k) := by
  refine Finset.sum_induction _ IsReal ?_ ⟨0, EReal.coe_zero.symm⟩ fun k _ => ?_
  · rintro _ _ ⟨a, rfl⟩ ⟨b, rfl⟩
    exact ⟨a + b, (EReal.coe_add a b).symm⟩
  · obtain ⟨a, ha⟩ := hu k
    obtain ⟨b, hb⟩ := hv k
    exact ⟨a * b, by rw [ha, hb, EReal.coe_mul]⟩

/-- Token `r`'s logit of expert `e`. -/
def logits (x : Vec Ideal S512x1024 .f32) (w : Vec Ideal S1024x128 .f32) (r : Fin 512) (e : Fin 8) : EReal :=
  ∑ k : Fin 1024, x (ix2 r k) * w (ix2 k (e.castLE (by decide)))

variable (x : Vec Ideal S512x1024 .f32) (w : Vec Ideal S1024x128 .f32)
variable (hx : ∀ r k, IsReal (x (ix2 r k))) (hw : ∀ k j, IsReal (w (ix2 k j)))

/-- The lane numbers. -/
abbrev lane : IVec S512x128 32 := iota .tc S512x128 32 [1] iota_S512x128_d1_w32

theorem lane_at (r : Fin 512) (j : Fin 128) : lane (ix2 r j) = BitVec.ofNat 32 j.val := by
  pointwise [lane]

theorem eq_word (a b : ℕ) (ha : a ≤ 128) (hb : b ≤ 128) : BitVec.ofNat 32 a = BitVec.ofNat 32 b ↔ a = b := by
  rw [← BitVec.toNat_inj, BitVec.toNat_ofNat, BitVec.toNat_ofNat]
  omega

theorem lt_word (a b : ℕ) (ha : a < 2 ^ 31) (hb : b < 2 ^ 31) :
    IntOp.cmpi .slt (BitVec.ofNat 32 a) (BitVec.ofNat 32 b) = if a < b then 1#1 else 0#1 := by
  have e : (BitVec.ofNat 32 a).slt (BitVec.ofNat 32 b) = decide (a < b) := by
    have ta : (BitVec.ofNat 32 a).toInt = a := by
      rw [BitVec.toInt_eq_toNat_of_lt] <;> rw [BitVec.toNat_ofNat] <;> omega
    have tb : (BitVec.ofNat 32 b).toInt = b := by
      rw [BitVec.toInt_eq_toNat_of_lt] <;> rw [BitVec.toNat_ofNat] <;> omega
    rw [BitVec.slt, ta, tb]
    exact decide_eq_decide.mpr Int.ofNat_lt
  unfold IntOp.cmpi
  simp only [e]
  by_cases h : a < b <;> simp [h]

/-- A choice on whether one number is below another. -/
theorem select_lt {α : Type} (a b : ℕ) (ha : a < 2 ^ 31) (hb : b < 2 ^ 31) (p q : α) :
    Scalar.select (IntOp.cmpi .slt (BitVec.ofNat 32 a) (BitVec.ofNat 32 b)) p q = if a < b then p else q := by
  rw [lt_word a b ha hb]
  by_cases h : a < b
  · rw [if_pos h, if_pos h]; rfl
  · rw [if_neg h, if_neg h]; rfl

/-- A choice on whether two lane numbers are the same. -/
theorem select_eq {α : Type} (a b : ℕ) (ha : a ≤ 128) (hb : b ≤ 128) (p q : α) :
    Scalar.select (IntOp.cmpi .eq (BitVec.ofNat 32 a) (BitVec.ofNat 32 b)) p q = if a = b then p else q := by
  have e := eq_word a b ha hb
  by_cases h : a = b
  · rw [if_pos h, e.mpr h]; simp [IntOp.cmpi, Scalar.select]
  · rw [if_neg h]
    have := mt e.mp h
    simp [IntOp.cmpi, Scalar.select, beq_eq_false_iff_ne.mpr this]

/-- A choice on whether a lane number is one of two others. -/
theorem select_or {α : Type} (n i j : ℕ) (hn : n ≤ 128) (hi : i ≤ 128) (hj : j ≤ 128) (p q : α) :
    Scalar.select (IntOp.ori (IntOp.cmpi .eq (BitVec.ofNat 32 n) (BitVec.ofNat 32 i))
      (IntOp.cmpi .eq (BitVec.ofNat 32 n) (BitVec.ofNat 32 j))) p q = if n = i ∨ n = j then p else q := by
  have c1 : ∀ a b : ℕ, a = b → IntOp.cmpi .eq (BitVec.ofNat 32 a) (BitVec.ofNat 32 b) = 1#1 := fun a b h => by
    rw [h]; simp [IntOp.cmpi]
  have c0 : ∀ a b : ℕ, a ≤ 128 → b ≤ 128 → a ≠ b → IntOp.cmpi .eq (BitVec.ofNat 32 a) (BitVec.ofNat 32 b) = 0#1 :=
    fun a b ha hb h => by simp [IntOp.cmpi, beq_eq_false_iff_ne.mpr (mt (eq_word a b ha hb).mp h)]
  by_cases h : n = i
  · rw [if_pos (Or.inl h), c1 n i h]
    by_cases h' : n = j
    · rw [c1 n j h']; rfl
    · rw [c0 n j hn hj h']; rfl
  · rw [c0 n i hn hi h]
    by_cases h' : n = j
    · rw [if_pos (Or.inr h'), c1 n j h']; rfl
    · rw [if_neg (not_or.mpr ⟨h, h'⟩), c0 n j hn hj h']; rfl

theorem negInf : Ideal.ofBits FTy.f32 4286578688#32 = ⊥ := by
  simp [Ideal.ofBits, Ideal.ieee]

theorem lt_eight (j : Fin 128) : IntOp.cmpi .slt (BitVec.ofNat 32 j.val) 8#32 = if j.val < 8 then 1#1 else 0#1 := by
  revert j; decide

include hx hw in
theorem logits_ne (r : Fin 512) (e : Fin 8) : logits x w r e ≠ ⊥ :=
  (IsReal.dot (fun k : Fin 1024 => x (ix2 r k)) _ (fun k => hx r k) fun k => hw k _).ne_bot

include hx hw in
/-- The lanes of the masked logits. -/
theorem pay3_at (r : Fin 512) (j : Fin 128) : k0_pay3 x w (ix2 r j) = lanes (logits x w r) j := by
  pointwise [k0_pay3]
  simp only [lt_eight, lanes, logits]
  split
  · simp only [(hx _ _).sub_self, (hw _ _).sub_self, zero_mul, mul_zero, Finset.sum_const_zero, add_zero]
    rfl
  · exact negInf

theorem pay4_at (r : Fin 512) (h : ∀ j, k0_pay3 x w (ix2 r j) = lanes (logits x w r) j) :
    k0_pay4 x w (ix2 r 0) = logits x w r (place (logits x w r) 0) := by
  pointwise [k0_pay4]
  simp only [h, negInf]
  exact max_lanes _

/-- The first of the lanes with a property: the smallest lane number, other lanes counting as 128. -/
theorem first_lane (P : Fin 128 → Prop) [DecidablePred P] (a : Fin 128) (ha : P a) (hmin : ∀ k, P k → a ≤ k) :
    Finset.univ.fold IntOp.minsi 2147483647#32 (fun k : Fin 128 => if P k then BitVec.ofNat 32 k.val else 128#32)
      = BitVec.ofNat 32 a.val := by
  refine (fold_absorbed _ _ _ _ a (Finset.mem_univ _) (fun k _ => ?_) ?_).trans (if_pos ha)
  · rw [if_pos ha]
    split
    · exact minsi_small _ _ k.isLt.le (hmin k ‹_›)
    · exact minsi_small _ _ le_rfl a.isLt.le
  · rw [if_pos ha]
    have : ∀ a : Fin 128, IntOp.minsi (BitVec.ofNat 32 a.val) 2147483647#32 = BitVec.ofNat 32 a.val := by decide
    exact this a

theorem pay5_at (r : Fin 512) (h : ∀ j, k0_pay3 x w (ix2 r j) = lanes (logits x w r) j)
    (hl : ∀ e, logits x w r e ≠ ⊥) (h4 : k0_pay4 x w (ix2 r 0) = logits x w r (place (logits x w r) 0)) :
    k0_pay5 x w (ix2 r 0) = BitVec.ofNat 32 (place (logits x w r) 0).val := by
  pointwise [k0_pay5]
  simp only [h, h4]
  exact first_lane (fun k => lanes (logits x w r) k = logits x w r (place (logits x w r) 0))
    ((place (logits x w r) 0).castLE (by decide)) (lanes_of _ _) fun k hk => lanes_first _ hl k hk

theorem pay6_at (r : Fin 512) (j : Fin 128) (h : ∀ j, k0_pay3 x w (ix2 r j) = lanes (logits x w r) j)
    (h5 : k0_pay5 x w (ix2 r 0) = BitVec.ofNat 32 (place (logits x w r) 0).val) :
    k0_pay6 x w (ix2 r j) = lanes' (logits x w r) j := by
  pointwise [k0_pay6]
  rw [h5, h, negInf, select_eq _ _ (by omega) (by omega)]
  rfl

theorem pay7_at (r : Fin 512) (h : ∀ j, k0_pay6 x w (ix2 r j) = lanes' (logits x w r) j) :
    k0_pay7 x w (ix2 r 0) = logits x w r (place (logits x w r) 1) := by
  pointwise [k0_pay7]
  simp only [h, negInf]
  exact max_lanes' _

theorem pay10_at (r : Fin 512) (h : ∀ j, k0_pay6 x w (ix2 r j) = lanes' (logits x w r) j)
    (hl : ∀ e, logits x w r e ≠ ⊥) (h7 : k0_pay7 x w (ix2 r 0) = logits x w r (place (logits x w r) 1)) :
    k0_pay10 lane (k0_pay8 x w) k0_pay9 (ix2 r 0) = BitVec.ofNat 32 (place (logits x w r) 1).val := by
  pointwise [k0_pay10, k0_pay8, k0_pay9]
  simp only [h, h7]
  exact first_lane (fun k => lanes' (logits x w r) k = logits x w r (place (logits x w r) 1))
    ((place (logits x w r) 1).castLE (by decide)) (lanes'_of _) fun k hk => lanes'_first _ hl k hk

section Chosen

variable (a b : Fin 512 → ℕ) (ha : ∀ r, a r < 8) (hb : ∀ r, b r < 8)
variable (v31 : IVec S512x1 32) (v39 : IVec S512x128 1) (v40 : IVec S512x128 32)
variable (h31 : ∀ r, v31 (ix2 r 0) = BitVec.ofNat 32 (a r)) (h43 : ∀ r, k0_pay10 lane v39 v40 (ix2 r 0) = BitVec.ofNat 32 (b r))

include ha hb h31 h43 in
theorem pay16_at (r : Fin 512) (j : Fin 128) :
    k0_pay16 (F := Ideal) lane v31 v39 v40 (ix2 r j) = mark (a r) (b r) j.val := by
  pointwise [k0_pay16, k0_pay14, k0_pay15]
  simp only [h31, h43]
  exact select_or _ _ _ j.isLt.le ((ha r).le.trans (by decide)) ((hb r).le.trans (by decide)) _ _

include ha hb h31 h43 in
theorem pay17_at (carry : Vec Ideal S1x128 .f32) (r : Fin 512) (j : Fin 128) :
    k0_pay17 (F := Ideal) lane v31 v39 v40 carry (ix2 r j)
      = (∑ s : Fin 512, if s.val < r.val then mark (a s) (b s) j.val else 0) + carry (ix2 0 j) := by
  pointwise [k0_pay17]
  simp only [pay16_at a b ha hb v31 v39 v40 h31 h43]
  refine congrArg (· + carry (ix2 0 j)) (Finset.sum_congr rfl fun s _ => ?_)
  exact select_lt _ _ (by omega) (by omega) _ _

include ha h31 in
theorem pay18_at (carry : Vec Ideal S1x128 .f32) (r : Fin 512) :
    k0_pay18 (F := Ideal) lane v31 v39 v40 carry (ix2 r 0)
      = k0_pay17 (F := Ideal) lane v31 v39 v40 carry (ix2 r ⟨a r, (ha r).trans (by decide)⟩) := by
  pointwise [k0_pay18, k0_pay14]
  simp only [h31]
  refine (Finset.sum_eq_single (⟨a r, (ha r).trans (by decide)⟩ : Fin 128) (fun j _ hj => ?_) (by simp)).trans ?_
  · exact (select_eq _ _ j.isLt.le ((ha r).le.trans (by decide)) _ _).trans (if_neg fun c => hj (Fin.ext c))
  · exact (select_eq _ _ ((ha r).le.trans (by decide)) ((ha r).le.trans (by decide)) _ _).trans (if_pos rfl)

include hb h43 in
theorem pay19_at (carry : Vec Ideal S1x128 .f32) (r : Fin 512) :
    k0_pay19 (F := Ideal) lane v31 v39 v40 carry (ix2 r 0)
      = k0_pay17 (F := Ideal) lane v31 v39 v40 carry (ix2 r ⟨b r, (hb r).trans (by decide)⟩) := by
  pointwise [k0_pay19, k0_pay15]
  simp only [h43]
  refine (Finset.sum_eq_single (⟨b r, (hb r).trans (by decide)⟩ : Fin 128) (fun j _ hj => ?_) (by simp)).trans ?_
  · exact (select_eq _ _ j.isLt.le ((hb r).le.trans (by decide)) _ _).trans (if_neg fun c => hj (Fin.ext c))
  · exact (select_eq _ _ ((hb r).le.trans (by decide)) ((hb r).le.trans (by decide)) _ _).trans (if_pos rfl)

include ha hb h31 h43 in
theorem pay21_at (carry : Vec Ideal S1x128 .f32) (j : Fin 128) :
    k0_pay21 carry (k0_pay20 (F := Ideal) lane v31 v39 v40) (ix2 0 j)
      = carry (ix2 0 j) + ∑ r : Fin 512, mark (a r) (b r) j.val := by
  pointwise [k0_pay21, k0_pay20]
  simp only [pay16_at a b ha hb v31 v39 v40 h31 h43]

theorem pay22_at (v43 : IVec S512x1 32) (v49 v52 v76 v80 : FVec Ideal S512x1 .f32) (r : Fin 512) (j : Fin 128) :
    k0_pay22 lane v31 v43 v49 v52 v76 v80 (ix2 r j)
      = entry (v31 (ix2 r 0)) (v43 (ix2 r 0)) (v49 (ix2 r 0)) (v52 (ix2 r 0)) (v76 (ix2 r 0)) (v80 (ix2 r 0)) j.val := by
  pointwise [k0_pay22]
  unfold entry
  have e : ∀ (n : ℕ) (hn : n ≤ 128) (p q : EReal),
      Scalar.select (IntOp.cmpi .eq (BitVec.ofNat 32 j.val) (BitVec.ofNat 32 n)) p q = if j.val = n then p else q :=
    fun n hn p q => select_eq _ _ j.isLt.le hn p q
  rw [← e 5 (by decide), ← e 4 (by decide), ← e 3 (by decide), ← e 2 (by decide), ← e 1 (by decide), ← e 0 (by decide)]

theorem pay23_at (v43 : IVec S512x1 32) (v49 v52 v76 v80 : FVec Ideal S512x1 .f32) (s : Fin 8) (r : Fin 512) :
    k0_pay1 (k0_pay23 lane v31 v43 v49 v52 v76 v80) (ix2 s r)
      = k0_pay22 lane v31 v43 v49 v52 v76 v80 (ix2 r (s.castLE (by decide))) := by
  pointwise [k0_pay23, k0_pay1]
  rfl

theorem pay12_at (v25 v37 : FVec Ideal S512x1 .f32) (r : Fin 512) :
    k0_pay12 v25 v37 (ix2 r 0) = Ideal.div 1 (1 + Ideal.exp (v37 (ix2 r 0) - v25 (ix2 r 0))) := by
  pointwise [k0_pay12, k0_pay11]

theorem pay13_at (v25 v37 : FVec Ideal S512x1 .f32) (r : Fin 512) :
    k0_pay13 v25 v37 (ix2 r 0)
      = Ideal.div (Ideal.exp (v37 (ix2 r 0) - v25 (ix2 r 0))) (1 + Ideal.exp (v37 (ix2 r 0) - v25 (ix2 r 0))) := by
  pointwise [k0_pay13, k0_pay11]

end Chosen

end Cert.RouteIdeal.Block

end
-- ==== Proof.RouteValue.lean ====
module

public import proofs.«01_k».proof.Proof.RouteBlock
public import proofs.«01_k».proof.Proof.Rows

@[expose] public section

/-! The three result arrays of the choice of experts, as functions of its argument arrays. -/

set_option maxRecDepth 16384

noncomputable section

open Idealize.ShloMosaic Idealize.ShloMosaic.TcCoe Idealize.SL.Sem Cert.Choice Cert.Routing
open Idealize.ShloMosaic.Pipeline (Dat)

namespace Cert.RouteIdeal.Value

open Cert.RouteIdeal Cert.RouteIdeal.Gen Cert.RouteIdeal.Block

/-! ## One block -/

/-- The record's block. -/
def info (x : Vec Ideal S512x1024 .f32) (w : Vec Ideal S1024x128 .f32) (carry : Vec Ideal S1x128 .f32) : FVec Ideal S512x128 .f32 :=
  k0_pay22 lane (k0_pay5 x w) (k0_pay10 lane (k0_pay8 x w) k0_pay9) (k0_pay12 (k0_pay4 x w) (k0_pay7 x w))
    (k0_pay13 (k0_pay4 x w) (k0_pay7 x w)) (k0_pay18 lane (k0_pay5 x w) (k0_pay8 x w) k0_pay9 carry)
    (k0_pay19 lane (k0_pay5 x w) (k0_pay8 x w) k0_pay9 carry)

/-- The transposed record's block. -/
def infoT (x : Vec Ideal S512x1024 .f32) (w : Vec Ideal S1024x128 .f32) (carry : Vec Ideal S1x128 .f32) : FVec Ideal S8x512 .f32 :=
  k0_pay1 (k0_pay23 lane (k0_pay5 x w) (k0_pay10 lane (k0_pay8 x w) k0_pay9) (k0_pay12 (k0_pay4 x w) (k0_pay7 x w))
    (k0_pay13 (k0_pay4 x w) (k0_pay7 x w)) (k0_pay18 lane (k0_pay5 x w) (k0_pay8 x w) k0_pay9 carry)
    (k0_pay19 lane (k0_pay5 x w) (k0_pay8 x w) k0_pay9 carry))

/-- The counts after the block. -/
def counts (x : Vec Ideal S512x1024 .f32) (w : Vec Ideal S1024x128 .f32) (carry : Vec Ideal S1x128 .f32) : Vec Ideal S1x128 .f32 :=
  k0_pay21 carry (k0_pay20 lane (k0_pay5 x w) (k0_pay8 x w) k0_pay9)

theorem infoT_at (x : Vec Ideal S512x1024 .f32) (w : Vec Ideal S1024x128 .f32) (carry : Vec Ideal S1x128 .f32) (s : Fin 8) (r : Fin 512) :
    infoT x w carry (ix2 s r) = info x w carry (ix2 r (s.castLE (by decide))) := pay23_at _ _ _ _ _ _ s r

section Step

variable (h : S65536x1024.Idx → EReal) (r8 : S1024x8.Idx → EReal) (n : ℕ)
variable (x : Vec Ideal S512x1024 .f32) (w : Vec Ideal S1024x128 .f32) (carry : Vec Ideal S1x128 .f32)
variable (hx : ∀ r k, IsReal (x (ix2 r k))) (hw : ∀ k j, IsReal (w (ix2 k j)))
variable (hl : ∀ r : Fin 512, logits x w r = logit h r8 (n + r.val))
variable (hc : ∀ j : Fin 128, carry (ix2 0 j) = rank h r8 n j.val)

include hx hw hl in
theorem first_at (r : Fin 512) : k0_pay5 x w (ix2 r 0) = BitVec.ofNat 32 (first h r8 (n + r.val)).val := by
  have h3 := fun j => pay3_at x w hx hw r j
  rw [pay5_at x w r h3 (logits_ne x w hx hw r) (pay4_at x w r h3), hl]
  rfl

include hx hw hl in
theorem second_at (r : Fin 512) :
    k0_pay10 lane (k0_pay8 x w) k0_pay9 (ix2 r 0) = BitVec.ofNat 32 (second h r8 (n + r.val)).val := by
  have h3 := fun j => pay3_at x w hx hw r j
  have h5 := pay5_at x w r h3 (logits_ne x w hx hw r) (pay4_at x w r h3)
  have h6 := fun j => pay6_at x w r j h3 h5
  rw [pay10_at x w r h6 (logits_ne x w hx hw r) (pay7_at x w r h6), hl]
  rfl

include hx hw hl in
theorem ratio_at (r : Fin 512) : Ideal.exp (k0_pay7 x w (ix2 r 0) - k0_pay4 x w (ix2 r 0)) = ratio h r8 (n + r.val) := by
  have h3 := fun j => pay3_at x w hx hw r j
  have h4 := pay4_at x w r h3
  have h5 := pay5_at x w r h3 (logits_ne x w hx hw r) h4
  have h6 := fun j => pay6_at x w r j h3 h5
  rw [pay7_at x w r h6, h4, hl]
  rfl

include hx hw hl hc in
theorem before_at (r : Fin 512) (j : Fin 128) :
    k0_pay17 (F := Ideal) lane (k0_pay5 x w) (k0_pay8 x w) k0_pay9 carry (ix2 r j) = rank h r8 (n + r.val) j.val := by
  rw [pay17_at (fun r => (first h r8 (n + r.val)).val) (fun r => (second h r8 (n + r.val)).val) (fun r => Fin.isLt _)
    (fun r => Fin.isLt _) _ _ _ (first_at h r8 n x w hx hw hl) (second_at h r8 n x w hx hw hl), rank_add, hc, add_comm]
  exact congrArg _ (sum_below (fun s => mark (first h r8 (n + s)).val (second h r8 (n + s)).val j.val) r.val r.isLt.le)

include hx hw hl hc in
theorem info_at (r : Fin 512) (j : Fin 128) : info x w carry (ix2 r j) = record h r8 (n + r.val) j.val := by
  have e5 := first_at h r8 n x w hx hw hl
  have e10 := second_at h r8 n x w hx hw hl
  unfold info
  rw [pay22_at, pay12_at, pay13_at, ratio_at h r8 n x w hx hw hl,
    pay18_at (fun r => (first h r8 (n + r.val)).val) (fun r => Fin.isLt _) _ _ _ e5,
    pay19_at (fun r => (second h r8 (n + r.val)).val) (fun r => Fin.isLt _) _ _ _ e10,
    before_at h r8 n x w carry hx hw hl hc, before_at h r8 n x w carry hx hw hl hc, e5, e10]
  rfl

include hx hw hl hc in
theorem counts_at (j : Fin 128) : counts x w carry (ix2 0 j) = rank h r8 (n + 512) j.val := by
  unfold counts
  rw [pay21_at (fun r => (first h r8 (n + r.val)).val) (fun r => (second h r8 (n + r.val)).val) (fun r => Fin.isLt _)
    (fun r => Fin.isLt _) _ _ _ (first_at h r8 n x w hx hw hl) (second_at h r8 n x w hx hw hl), rank_add, hc]
  exact congrArg _ (Fin.sum_univ_eq_sum_range (fun s => mark (first h r8 (n + s)).val (second h r8 (n + s)).val j.val) 512)

include hx hw hl hc in
theorem info_at2 (y : S512x128.Idx) : info x w carry y = record h r8 (n + (y 0).val) (y 1).val := by
  rw [show y = ix2 (y 0) (y 1) from (ix2_eta y).symm]
  exact info_at h r8 n x w carry hx hw hl hc (y 0) (y 1)

include hx hw hl hc in
theorem infoT_at2 (y : S8x512.Idx) : infoT x w carry y = record h r8 (n + (y 1).val) (y 0).val := by
  rw [show y = ix2 (y 0) (y 1) from (ix2_eta y).symm]
  exact (infoT_at x w carry (y 0) (y 1)).trans (info_at h r8 n x w carry hx hw hl hc (y 1) _)

include hx hw hl hc in
theorem counts_at2 (y : S1x128.Idx) : counts x w carry y = rank h r8 (n + 512) (y 1).val := by
  rw [show y = ix2 0 (y 1) from by rw [← ix2_eta y]; congr 1; exact Subsingleton.elim _ _]
  exact counts_at h r8 n x w carry hx hw hl hc (y 1)

end Step

/-! ## What a point leaves -/

section Points

variable (c : Dev nD) (i : grid0.Coords) (arg1 : Memref sig .tc .vmem S512x1024 .f32) (harg1 : arg1.IsWhole)
  (arg2 : Memref sig .tc .vmem S1024x128 .f32) (harg2 : arg2.IsWhole) (arg3 : Memref sig .tc .vmem S512x128 .f32) (harg3 : arg3.IsWhole)
  (arg4 : Memref sig .tc .vmem S8x512 .f32) (harg4 : arg4.IsWhole) (arg5 : Memref sig .tc .vmem S1x128 .f32) (harg5 : arg5.IsWhole)
  (arg6 : Memref sig .tc .vmem S1x128 .f32) (harg6 : arg6.IsWhole)
  (x : Vec Ideal S512x1024 .f32) (w : Vec Ideal S1024x128 .f32) (carry : Vec Ideal S1x128 .f32)

theorem A2 (hc : cond0_0 i) : out0_A_2 c i arg1 harg1 arg2 harg2 arg3 harg3 arg4 harg4 arg5 harg5 arg6 harg6 hc x w = info x w (k0_pay2 (F := Ideal)) := by
  unfold out0_A_2
  frame_out
  rfl

theorem A3 (hc : cond0_0 i) : out0_A_3 c i arg1 harg1 arg2 harg2 arg3 harg3 arg4 harg4 arg5 harg5 arg6 harg6 hc x w = infoT x w (k0_pay2 (F := Ideal)) := by
  unfold out0_A_3
  frame_out
  rfl

theorem A4 (hc : cond0_0 i) : out0_A_4 c i arg1 harg1 arg2 harg2 arg3 harg3 arg4 harg4 arg5 harg5 arg6 harg6 hc x w = counts x w (k0_pay2 (F := Ideal)) := by
  unfold out0_A_4
  frame_out
  rfl

theorem AS (hc : cond0_0 i) : sout0_A_0 c i arg1 harg1 arg2 harg2 arg3 harg3 arg4 harg4 arg5 harg5 arg6 harg6 hc x w = counts x w (k0_pay2 (F := Ideal)) := by
  unfold sout0_A_0
  frame_out
  rfl

theorem B2 (hc : ¬cond0_0 i) : out0_B_2 c i arg1 harg1 arg2 harg2 arg3 harg3 arg4 harg4 arg5 harg5 arg6 harg6 hc x w carry = info x w carry := by
  unfold out0_B_2
  frame_out
  rfl

theorem B3 (hc : ¬cond0_0 i) : out0_B_3 c i arg1 harg1 arg2 harg2 arg3 harg3 arg4 harg4 arg5 harg5 arg6 harg6 hc x w carry = infoT x w carry := by
  unfold out0_B_3
  frame_out
  rfl

theorem B4 (hc : ¬cond0_0 i) : out0_B_4 c i arg1 harg1 arg2 harg2 arg3 harg3 arg4 harg4 arg5 harg5 arg6 harg6 hc x w carry = counts x w carry := by
  unfold out0_B_4
  frame_out
  rfl

theorem BS (hc : ¬cond0_0 i) : sout0_B_0 c i arg1 harg1 arg2 harg2 arg3 harg3 arg4 harg4 arg5 harg5 arg6 harg6 hc x w carry = counts x w carry := by
  unfold sout0_B_0
  frame_out
  rfl

end Points

/-! ## Whole arrays -/

variable (m : (ℓ : Loc nD τ sig) → Buf (Elt Ideal) ℓ)

/-- Where each window's block lies: point `t` takes rows `512 t` to `512 t + 511`. -/
theorem idx : ∀ t : Fin cfg0.N, win0_0.index t = ![t.val, 0] ∧ win0_1.index t = ![0, 0] ∧ win0_2.index t = ![t.val, 0]
    ∧ win0_3.index t = ![0, t.val] ∧ win0_4.index t = ![0, 0] :=
  (by decide +kernel : ∀ t : Fin grid0.N, _)

/-- The tokens' rows and the router's columns. -/
abbrev rows (c : Dev nD) : S65536x1024.Idx → EReal := m ((c : Thread nD τ).loc main_arg0)
abbrev router (c : Dev nD) : S1024x8.Idx → EReal := m ((c : Thread nD τ).loc main_arg1)

theorem blk0_at (c : Dev nD) (t : Fin cfg0.N) (r : Fin 512) (k : Fin 1024) (hr : 512 * t.val + r.val < 65536) :
    (iblk m c 0 t : S512x1024.Idx → EReal) (ix2 r k) = rows m c (ix2 ⟨512 * t.val + r.val, hr⟩ k) := by
  blk_point [iblk, V, idx t]

/-- The router as the call takes it: padded with columns of zeros. -/
theorem padded (c : Dev nD) (k : Fin 1024) (j : Fin 128) :
    (V m c main_v0 : S1024x128.Idx → EReal) (ix2 k j) = if h : j.val < 8 then router m c (ix2 k ⟨j.val, h⟩) else 0 := by
  have e : (V m c main_v0 : S1024x128.Idx → EReal) = pad S1024x128 ![0, 0] ![0, 120] ![0, 0] (router m c)
      (sitofp (F := Ideal) .f32 (constantI S_ 32 0#32)) pads_S1024x8_S1024x128_000_01200 h_S_ := rfl
  rw [e]
  pointwise
  have z : FloatOps.sitofp (F := Ideal) FTy.f32 0#32 = (0 : EReal) := by
    show (((0#32 : BitVec 32).toInt : ℝ) : EReal) = 0
    simp
  rw [z]

theorem blk1_at (c : Dev nD) (t : Fin cfg0.N) (k : Fin 1024) (j : Fin 128) :
    (iblk m c 1 t : S1024x128.Idx → EReal) (ix2 k j) = if h : j.val < 8 then router m c (ix2 k ⟨j.val, h⟩) else 0 := by
  refine Eq.trans ?_ (padded m c k j)
  change V m c main_v0 ((win0_1.blk t).view.emb (ix2 k j)) = _
  congr 1
  blk_ext [idx t]

section Whole

variable (hX : ∀ c i, IsReal (rows m c i)) (hW : ∀ c i, IsReal (router m c i)) (c : Dev nD)

theorem point_lt (t : Fin cfg0.N) : t.val < 128 := lt_of_lt_of_eq t.isLt N_0

include hX in
theorem blk0_real (t : Fin cfg0.N) (r : Fin 512) (k : Fin 1024) : IsReal ((iblk m c 0 t : S512x1024.Idx → EReal) (ix2 r k)) := by
  have ht := point_lt t
  rw [blk0_at m c t r k (by omega)]
  exact hX c _

include hW in
theorem blk1_real (t : Fin cfg0.N) (k : Fin 1024) (j : Fin 128) : IsReal ((iblk m c 1 t : S1024x128.Idx → EReal) (ix2 k j)) := by
  rw [blk1_at]
  split
  · exact hW c _
  · exact ⟨0, EReal.coe_zero.symm⟩

/-- A block's logits are those of its tokens. -/
theorem logits_at (t : Fin cfg0.N) (r : Fin 512) :
    logits (iblk m c 0 t) (iblk m c 1 t) r = logit (rows m c) (router m c) (512 * t.val + r.val) := by
  have ht := point_lt t
  have hr : 512 * t.val + r.val < 65536 := by omega
  funext e
  refine Finset.sum_congr rfl fun k _ => ?_
  rw [blk0_at m c t r k hr, blk1_at]
  exact congrArg₂ (· * ·) (congrArg (fun n => rows m c (ix2 n k)) (Fin.ext (Nat.mod_eq_of_lt hr).symm)) (dif_pos e.isLt)

include hX hW in
/-- What point `t` leaves, with the counts of the tokens before its block carried to it. -/
theorem left_at (n : ℕ) (hn : n < cfg0.N) : ∃ carry : Vec Ideal S1x128 .f32,
    (∀ j : Fin 128, carry (ix2 0 j) = rank (rows m c) (router m c) (512 * n) j.val)
    ∧ outsAt0 m c n hn = (info (iblk m c 0 ⟨n, hn⟩) (iblk m c 1 ⟨n, hn⟩) carry, infoT (iblk m c 0 ⟨n, hn⟩) (iblk m c 1 ⟨n, hn⟩) carry,
      counts (iblk m c 0 ⟨n, hn⟩) (iblk m c 1 ⟨n, hn⟩) carry, counts (iblk m c 0 ⟨n, hn⟩) (iblk m c 1 ⟨n, hn⟩) carry) := by
  induction n with
  | zero =>
    refine ⟨k0_pay2 (F := Ideal), fun j => ?_, ?_⟩
    · pointwise [k0_pay2]
      simp [rank]
    · refine (outsAt0_A m c ⟨0, hn⟩ rfl).trans ?_
      rw [A2, A3, A4, AS]
  | succ n ih =>
    have h128 : n + 1 < 128 := point_lt ⟨n + 1, hn⟩
    obtain ⟨carry, hc, hl⟩ := ih (Nat.lt_of_succ_lt hn)
    refine ⟨(outsAt0 m c n (Nat.lt_of_succ_lt hn)).2.2.2, fun j => ?_, ?_⟩
    · rw [hl]
      exact counts_at (rows m c) (router m c) (512 * n) _ _ carry (blk0_real m hX c _) (blk1_real m hW c _)
        (logits_at m c _) hc j
    · refine (outsAt0_B m c ⟨n + 1, hn⟩ (by show ¬ (n + 1) % 128 = 0; omega)).trans ?_
      rw [B2, B3, B4, BS]
      rfl

/-- The record of every token. -/
def recordOf (i : S65536x128.Idx) : EReal := record (rows m c) (router m c) (i 0).val (i 1).val

/-- The first eight entries of every token's record, a column for each token. -/
def recordTOf (i : S8x65536.Idx) : EReal := record (rows m c) (router m c) (i 1).val (i 0).val

/-- How many tokens have each expert. -/
def countsOf (i : S1x128.Idx) : EReal := rank (rows m c) (router m c) 65536 (i 1).val

include hX hW in
theorem record_final : (dats m 0 c).arrAt 2 (cfgs 0).N = recordOf m c := by
  refine (dats m 0 c).arrAt_eq_of_covers 2 _ (by decide +kernel) fun t _ y => ?_
  blk_simp
  rw [after0_2]
  obtain ⟨carry, hc, hl⟩ := left_at m hX hW c t.val t.isLt
  rw [hl]
  refine (info_at2 (rows m c) (router m c) (512 * t.val) _ _ carry (blk0_real m hX c t) (blk1_real m hW c t)
    (logits_at m c t) hc y).trans ?_
  unfold recordOf
  congr 1
  · have e : ((((cfg0.win 2).blk t).view.emb y 0).val) = win0_2.index t (0 : Fin 2) * 512 + 1 * (y 0).val := rfl
    have i : win0_2.index t (0 : Fin 2) = t.val := congrFun (idx t).2.2.1 0
    refine Eq.trans ?_ e.symm
    rw [i]
    omega
  · have e : ((((cfg0.win 2).blk t).view.emb y 1).val) = win0_2.index t (1 : Fin 2) * 128 + 1 * (y 1).val := rfl
    have i : win0_2.index t (1 : Fin 2) = 0 := congrFun (idx t).2.2.1 1
    refine Eq.trans ?_ e.symm
    rw [i]
    omega

include hX hW in
theorem recordT_final : (dats m 0 c).arrAt 3 (cfgs 0).N = recordTOf m c := by
  refine (dats m 0 c).arrAt_eq_of_covers 3 _ (by decide +kernel) fun t _ y => ?_
  blk_simp
  rw [after0_3]
  obtain ⟨carry, hc, hl⟩ := left_at m hX hW c t.val t.isLt
  rw [hl]
  refine (infoT_at2 (rows m c) (router m c) (512 * t.val) _ _ carry (blk0_real m hX c t) (blk1_real m hW c t)
    (logits_at m c t) hc y).trans ?_
  unfold recordTOf
  congr 1
  · have e : ((((cfg0.win 3).blk t).view.emb y 1).val) = win0_3.index t (1 : Fin 2) * 512 + 1 * (y 1).val := rfl
    have i : win0_3.index t (1 : Fin 2) = t.val := congrFun (idx t).2.2.2.1 1
    refine Eq.trans ?_ e.symm
    rw [i]
    omega
  · have e : ((((cfg0.win 3).blk t).view.emb y 0).val) = win0_3.index t (0 : Fin 2) * 8 + 1 * (y 0).val := rfl
    have i : win0_3.index t (0 : Fin 2) = 0 := congrFun (idx t).2.2.2.1 0
    refine Eq.trans ?_ e.symm
    rw [i]
    omega

include hX hW in
theorem counts_final : (dats m 0 c).arrAt 4 (cfgs 0).N = countsOf m c := by
  refine (dats m 0 c).arrAt_eq_of_covers 4 _ (by decide +kernel) fun t hf y => ?_
  blk_simp
  rw [after0_4]
  obtain ⟨carry, hc, hl⟩ := left_at m hX hW c t.val t.isLt
  rw [hl]
  refine (counts_at2 (rows m c) (router m c) (512 * t.val) _ _ carry (blk0_real m hX c t) (blk1_real m hW c t)
    (logits_at m c t) hc y).trans ?_
  unfold countsOf
  have ht : t.val = 127 := by
    have := (flush0_4 t).mp hf
    have := point_lt t
    omega
  congr 1
  · rw [ht]
  · have e : ((((cfg0.win 4).blk t).view.emb y 1).val) = win0_4.index t (1 : Fin 2) * 128 + 1 * (y 1).val := rfl
    have i : win0_4.index t (1 : Fin 2) = 0 := congrFun (idx t).2.2.2.2 1
    refine Eq.trans ?_ e.symm
    rw [i]
    omega

end Whole

end Cert.RouteIdeal.Value

end
-- ==== Proof.RouteRef.lean ====
module

public import proofs.«01_k».proof.Proof.Gen.RouteRefIdeal.Read
public import proofs.«01_k».proof.Proof.RouteValue

@[expose] public section

/-! The reference of the choice of experts computes the same record of every token and the same counts. -/

set_option maxRecDepth 16384

noncomputable section

open Idealize.ShloMosaic Idealize.ShloMosaic.TcCoe Idealize.SL.Sem Cert.Choice Cert.Routing

namespace Cert.RouteRefIdeal.Same

open Cert.RouteRefIdeal Cert.RouteRefIdeal.Gen
open Cert.RouteIdeal.Block (IsReal select_lt eq_word negInf)

open Cert.RouteRefIdeal.Read

variable (x : FVec Ideal S65536x1024 .f32) (w : FVec Ideal S1024x8 .f32)

/-- Token `n`'s expert at place `k`. -/
def chosen (n : ℕ) (k : Fin 2) : Fin 8 := place (logit x w n) (k.castLE (by decide))

theorem logit_at (n : Fin 65536) (e : Fin 8) : val_main_v0 (F := Ideal) x w (ix2 n e) = logit x w n.val e := by
  pointwise [val_main_v0, logit]
  simp only [Nat.mod_eq_of_lt n.isLt]

theorem logit_along (n : Fin 65536) : (fun e : Fin 8 => val_main_v0 (F := Ideal) x w (ix2 n e)) = logit x w n.val :=
  funext fun e => logit_at x w n e

theorem along_at (n : Fin 65536) (a e : Fin 8) : (ix2 n a).along 1 e = ix2 n e := by
  funext b
  fin_cases b <;> rfl

theorem sorted_at (n : Fin 65536) (a : Fin 8) :
    sortedFrom (fun k k' => FloatOps.cmpfTotal (F := Ideal) (φ := .f32) .gt (val_main_v0 (F := Ideal) x w ((ix2 n a).along 1 k))
      (val_main_v0 (F := Ideal) x w ((ix2 n a).along 1 k')) == 1#1) a = place (logit x w n.val) a := by
  rw [← logit_along]
  refine congrFun (congrArg sortedFrom (funext fun k => funext fun k' => ?_)) a
  exact congrArg₂ (fun p q : S65536x8.Idx => FloatOps.cmpfTotal (F := Ideal) (φ := .f32) .gt
    (val_main_v0 (F := Ideal) x w p) (val_main_v0 (F := Ideal) x w q) == 1#1) (along_at n a k) (along_at n a k')

theorem index_at (n : Fin 65536) (k : Fin 2) :
    val_main_indices (F := Ideal) x w (ix2 n k) = BitVec.ofNat 32 (chosen x w n.val k).val := by
  pointwise [val_main_indices, Host.topK, Host.sort2]
  exact (congrArg (fun i : S65536x8.Idx => BitVec.ofNat 32 (i 1).val) (along_at n _ _)).trans
    (congrArg (fun e : Fin 8 => BitVec.ofNat 32 e.val) (sorted_at x w n (k.castLE (by decide))))

theorem value_at (n : Fin 65536) (k : Fin 2) :
    val_main_values (F := Ideal) x w (ix2 n k) = logit x w n.val (chosen x w n.val k) := by
  pointwise [val_main_values, Host.topK, Host.sort2]
  refine (congrArg (val_main_v0 (F := Ideal) x w) (along_at n _ _)).trans ((logit_at x w n _).trans ?_)
  exact congrArg (logit x w n.val) (sorted_at x w n (k.castLE (by decide)))

/-- The logit at place 0 is the larger of the two. -/
theorem chosen_le (n : ℕ) (k : Fin 2) : logit x w n (chosen x w n k) ≤ logit x w n (chosen x w n 0) := by
  by_cases h : chosen x w n k = chosen x w n 0
  · rw [h]
  · exact (place0_leads (logit x w n) _ h).le

theorem chosen_ne (n : ℕ) : chosen x w n 1 ≠ chosen x w n 0 := place_ne (logit x w n)

theorem top_at (n : Fin 65536) :
    val_main_v3 (F := Ideal) x w (ix1 n) = logit x w n.val (chosen x w n.val 0) := by
  pointwise [val_main_v3, val_main_v2, val_main_v1, val_main_cst, val_main_cst_0]
  simp only [value_at, negInf]
  rw [fold_absorbed max ⊥ (fun k : Fin 2 => logit x w n.val (chosen x w n.val k)) Finset.univ 0 (Finset.mem_univ _)
    (fun k _ => max_eq_left (chosen_le x w n.val k)) (max_eq_left bot_le)]
  exact max_eq_right bot_le

theorem exp_at (n : Fin 65536) (k : Fin 2) :
    val_main_v7 (F := Ideal) x w (ix2 n k)
      = Ideal.exp (logit x w n.val (chosen x w n.val k) - logit x w n.val (chosen x w n.val 0)) := by
  pointwise [val_main_v7, val_main_v6, val_main_v5, val_main_v4]
  rw [value_at, top_at]

/-- The logits of real rows and a real router are real. -/
theorem logit_real (hx : ∀ i, IsReal (x i)) (hw : ∀ i, IsReal (w i)) (n : ℕ) (e : Fin 8) : IsReal (logit x w n e) :=
  IsReal.dot _ _ (fun k => hx _) fun k => hw _

theorem exp_first (hx : ∀ i, IsReal (x i)) (hw : ∀ i, IsReal (w i)) (n : Fin 65536) :
    val_main_v7 (F := Ideal) x w (ix2 n 0) = 1 := by
  rw [exp_at, (logit_real x w hx hw _ _).sub_self]
  show ((Real.exp 0 : ℝ) : EReal) = 1
  rw [Real.exp_zero, EReal.coe_one]

theorem exp_second (n : Fin 65536) : val_main_v7 (F := Ideal) x w (ix2 n 1) = ratio x w n.val := exp_at x w n 1

theorem weight_at (hx : ∀ i, IsReal (x i)) (hw : ∀ i, IsReal (w i)) (n : Fin 65536) :
    val_main_v11 (F := Ideal) x w (ix2 n 0) = Ideal.div 1 (1 + ratio x w n.val)
      ∧ val_main_v11 (F := Ideal) x w (ix2 n 1) = Ideal.div (ratio x w n.val) (1 + ratio x w n.val) := by
  constructor <;> pointwise [val_main_v11, val_main_v10, val_main_v9, val_main_v8, val_main_cst_1] <;>
    rw [Fin.sum_univ_two, exp_second, exp_first x w hx hw]

theorem hot_at (n : Fin 65536) (k : Fin 2) (e : Fin 8) :
    val_main_v12 (F := Ideal) x w (ix3 n k e) = if e.val = (chosen x w n.val k).val then 1 else 0 := by
  pointwise [val_main_v12, val_main_call0_v4, val_main_call0_v3, val_main_call0_v2, val_main_call0_v1, val_main_call0_v0]
  rw [index_at]
  have he := eq_word (chosen x w n.val k).val e.val (by omega) (by omega)
  by_cases h : e.val = (chosen x w n.val k).val
  · rw [if_pos h, he.mpr h.symm]
    simp [IntOp.cmpi]
    show (((1 : ℕ) : ℝ) : EReal) = 1
    simp
  · rw [if_neg h]
    have h' := mt he.mp (fun q => h q.symm)
    simp [IntOp.cmpi, beq_eq_false_iff_ne.mpr h']
    show (((0 : ℕ) : ℝ) : EReal) = 0
    simp

theorem both_at (n : Fin 65536) (e : Fin 8) :
    val_main_v17 (F := Ideal) x w (ix2 n e) = mark (first x w n.val).val (second x w n.val).val e.val := by
  pointwise [val_main_v17, val_main_v16, val_main_v15, val_main_v14, val_main_v13]
  rw [hot_at, hot_at]
  show _ = mark (chosen x w n.val 0).val (chosen x w n.val 1).val e.val
  unfold mark
  have hne : (chosen x w n.val 1).val ≠ (chosen x w n.val 0).val := fun h => chosen_ne x w n.val (Fin.ext h)
  by_cases h0 : e.val = (chosen x w n.val 0).val
  · rw [if_pos h0, if_neg (fun h => hne (h.symm.trans h0)), if_pos (Or.inl h0), add_zero]
  · by_cases h1 : e.val = (chosen x w n.val 1).val
    · rw [if_neg h0, if_pos h1, if_pos (Or.inr h1), zero_add]
    · rw [if_neg h0, if_neg h1, if_neg (not_or.mpr ⟨h0, h1⟩), add_zero]

theorem earlier_at (n s : Fin 65536) :
    val_main_v25 (F := Ideal) (ix2 n s) = if s.val < n.val then 1 else 0 := by
  pointwise [val_main_v25, val_main_v24, val_main_v23, val_main_v22, val_main_v21, val_main_v20, val_main_v19, val_main_v18,
    val_main_call1_v1, val_main_call1_v0, val_main_cst_2, val_main_cst_3]
  exact select_lt s.val n.val (by omega) (by omega) 1 0

theorem before_at (n : Fin 65536) (e : Fin 8) :
    val_main_v26 (F := Ideal) x w (ix2 n e) = rank x w n.val e.val := by
  pointwise [val_main_v26]
  simp only [earlier_at, both_at, ite_mul, one_mul, zero_mul]
  exact sum_below (N := 65536) (fun s => mark (first x w s).val (second x w s).val e.val) n.val n.isLt.le

theorem rank_at (n : Fin 65536) (k : Fin 2) :
    val_main_v27 (F := Ideal) x w (ix2 n k) = rank x w n.val (chosen x w n.val k).val := by
  pointwise [val_main_v27]
  simp only [hot_at, before_at]
  rw [Finset.sum_eq_single (chosen x w n.val k)]
  · rw [if_pos rfl, one_mul]
  · intro e _ h
    rw [if_neg fun q => h (Fin.ext q), zero_mul]
  · exact fun h => absurd (Finset.mem_univ _) h

theorem zero_word : FloatOps.sitofp (F := Ideal) .f32 0#32 = (0 : EReal) := by
  show ((((0#32 : BitVec 32).toInt : ℝ)) : EReal) = 0
  simp

theorem info_at (hx : ∀ i, IsReal (x i)) (hw : ∀ i, IsReal (w i)) (n : Fin 65536) (j : Fin 128) :
    val_main_v30 (F := Ideal) x w (ix2 n j) = record x w n.val j.val := by
  pointwise [val_main_v30, val_main_v29, val_main_v28, val_main_call2_v0, val_main_c]
  obtain ⟨w0, w1⟩ := weight_at x w hx hw n
  obtain ⟨j, hj⟩ := j
  unfold record
  by_cases h : j < 6
  · interval_cases j
    · exact congrArg (FloatOps.sitofp (F := Ideal) .f32) (index_at x w n 0)
    · exact congrArg (FloatOps.sitofp (F := Ideal) .f32) (index_at x w n 1)
    · exact w0
    · exact w1
    · exact rank_at x w n 0
    · exact rank_at x w n 1
  · have r : ∀ a b c d e f, entry a b c d e f j = 0 := fun a b c d e f => by
      unfold entry
      rw [if_neg (by omega), if_neg (by omega), if_neg (by omega), if_neg (by omega), if_neg (by omega), if_neg (by omega)]
    rw [r]
    exact (dif_neg h).trans zero_word

theorem count_at (j : Fin 128) :
    val_main_v35 (F := Ideal) x w (ix2 0 j) = rank x w 65536 j.val := by
  pointwise [val_main_v35, val_main_v32, val_main_v31, val_main_cst_4, val_main_call3_v0, val_main_c_5]
  by_cases h : j.val < 8
  · rw [dif_pos h]
    simp only [both_at]
    exact Fin.sum_univ_eq_sum_range (fun s => mark (first x w s).val (second x w s).val j.val) 65536
  · rw [dif_neg h]
    refine zero_word.trans (Finset.sum_eq_zero fun s _ => if_neg ?_).symm
    have := (first x w s).isLt
    have := (second x w s).isLt
    omega

/-- The reference's record of every token. -/
theorem res0 (hx : ∀ i, IsReal (x i)) (hw : ∀ i, IsReal (w i)) :
    val_main_v30 (F := Ideal) x w = fun i => record x w (i 0).val (i 1).val := by
  funext i
  idx_vars i
  exact info_at x w hx hw _ _

/-- The first eight lanes of the record, transposed. -/
theorem res1 (hx : ∀ i, IsReal (x i)) (hw : ∀ i, IsReal (w i)) :
    val_main_v34 (F := Ideal) x w = fun i => record x w (i 1).val (i 0).val := by
  funext i
  rw [val_main_v34_apply, val_main_v33_apply, res0 x w hx hw]

/-- The reference's count of every expert. -/
theorem res2 : val_main_v35 (F := Ideal) x w = fun i => rank x w 65536 (i 1).val := by
  funext i
  idx_vars i
  obtain rfl : i0 = 0 := Subsingleton.elim _ _
  exact count_at x w _

end Cert.RouteRefIdeal.Same

end
-- ==== Proof.RouteClaims.lean ====
module

public import proofs.«01_k».proof.Defs
public import proofs.«01_k».proof.Proof.Gen.Route.Frame
public import proofs.«01_k».proof.Proof.Gen.Pre_finite_rows
public import proofs.«01_k».proof.Proof.RouteRef
public import Idealize.ShloMosaic.Lib.Claim
public import Idealize.ShloMosaic.Lib.Quiescent
public import Idealize.ShloMosaic.Lib.ReduceAll

@[expose] public section

/-! The claims about the choice of experts. -/

set_option maxRecDepth 16384

noncomputable section

open Idealize.ShloMosaic Idealize.ShloMosaic.TcCoe Idealize.SL.Sem

namespace Cert.RouteClaims

open Cert.RouteIdeal.Block (IsReal)

/-- The kernel runs to the end and leaves its arguments alone. -/
theorem frame : Cert.quiescent_Route := fun m ρ _ => Cert.Route.Gen.frame m ρ

/-- So does the kernel over the reals. -/
theorem frameIdeal : Cert.quiescent_RouteIdeal := fun m ρ _ => Cert.RouteIdeal.Gen.frame m ρ

/-- The same where the precondition holds. -/
theorem frameIdeal_pre : Cert.quiescent_RouteIdeal_pre_finite_rows := fun m ρ _ => Cert.RouteIdeal.Gen.frame m ρ

/-- The reference runs to the end and leaves its arguments alone. -/
theorem frameRef : Cert.quiescent_RouteRefIdeal := fun m ρ _ =>
  (θ_run Cert.RouteRefIdeal.defs _ _).mono (fun r h => ⟨fun c => (h c).2.2.2, sem_eq_zero_of_no_sems (by decide) r.2⟩)
    (Cert.RouteRefIdeal.Value.run (F := Ideal) m ρ)

/-- The same where the precondition holds. -/
theorem frameRef_pre : Cert.quiescent_RouteRefIdeal_pre_finite_rows := fun m ρ _ => frameRef m ρ trivial

/-- The kernel over the reals is the kernel's own text. -/
theorem preserves : Cert.preserves_Route_RouteIdeal := trivial

/-- A value whose magnitude is below infinity is a real number. -/
theorem real_of_finite (a : EReal)
    (h : FloatOps.cmpf (F := Ideal) (φ := .f32) .olt (FloatOps.hostAbsf (F := Ideal) (φ := .f32) a) (Ideal.ofBits .f32 0x7F800000#32) = 1#1) :
    IsReal a := by
  have e : Ideal.ofBits .f32 0x7F800000#32 = ⊤ := by simp [Ideal.ofBits, Ideal.ieee]
  have h' : max a (-a) < ⊤ := by
    rw [e] at h
    by_contra hn
    refine absurd (h.symm.trans ?_) (by decide : ¬ (1#1 : BitVec 1) = 0#1)
    show BitVec.ofBool (decide (max a (-a) < ⊤)) = 0#1
    rw [decide_eq_false hn]
    rfl
  obtain ⟨h1, h2⟩ := max_lt_iff.mp h'
  induction a with
  | bot => exact absurd h2 (by simp)
  | coe r => exact ⟨r, rfl⟩
  | top => exact absurd h1 (lt_irrefl _)

/-- Where `finite_rows` holds of the arguments, every entry is a real number. -/
theorem real_of_pre (x : FVec Ideal Cert.Pre_finite_rows.S65536x1024 .f32) (w : FVec Ideal Cert.Pre_finite_rows.S1024x8 .f32)
    (h : Cert.Pre_finite_rows.fn (F := Ideal) x w = fun _ => 1#1) : (∀ i, IsReal (x i)) ∧ ∀ i, IsReal (w i) := by
  have h0 := congrFun h (Shape.Idx.first Cert.Pre_finite_rows.Facts.h_S_)
  unfold Cert.Pre_finite_rows.fn at h0
  obtain ⟨hx, hw⟩ := IntOp.andi_eq_one.mp h0
  have : Subsingleton Cert.Pre_finite_rows.S_.Idx := ⟨fun a b => funext fun k => k.elim0⟩
  exact ⟨fun i => real_of_finite _ (Host.reduce_andi_all _ _ _ _ _ hx i),
    fun i => real_of_finite _ (Host.reduce_andi_all _ _ _ _ _ hw i)⟩

/-- Over the reals the three results of the kernel are those of the reference. -/
theorem algebraic : Cert.algebraic_RouteIdeal_RouteRefIdeal_pre_finite_rows := by
  intro m g m' g' hpre hagree
  have hX := fun c => (real_of_pre _ _ (hpre c)).1
  have hW := fun c => (real_of_pre _ _ (hpre c)).2
  refine ⟨Cert.RouteIdeal.Value.recordOf m, Cert.RouteIdeal.Value.recordTOf m, Cert.RouteIdeal.Value.countsOf m, ?_, ?_⟩
  · run_from Cert.RouteIdeal.Gen.run_main m g
    · exact Cert.RouteIdeal.Value.record_final m hX hW c
    · exact Cert.RouteIdeal.Value.recordT_final m hX hW c
    · exact Cert.RouteIdeal.Value.counts_final m hX hW c
    · rfl
  · refine (θ_run Cert.RouteRefIdeal.defs _ _).mono (fun r h c => ?_) (Cert.RouteRefIdeal.Value.run (F := Ideal) m' g')
    obtain ⟨e0, e1, e2, e⟩ := h c
    obtain ⟨h0, h1⟩ := hagree c
    refine ⟨(e0.trans (Cert.RouteRefIdeal.Read.val_main_v30_eq (F := Ideal) m' c)).trans ?_,
      (e1.trans (Cert.RouteRefIdeal.Read.val_main_v34_eq (F := Ideal) m' c)).trans ?_,
      (e2.trans (Cert.RouteRefIdeal.Read.val_main_v35_eq (F := Ideal) _ _)).trans ?_, e⟩
    · rw [h0, h1]; exact Cert.RouteRefIdeal.Same.res0 _ _ (hX c) (hW c)
    · rw [h0, h1]; exact Cert.RouteRefIdeal.Same.res1 _ _ (hX c) (hW c)
    · rw [h0, h1]; exact Cert.RouteRefIdeal.Same.res2 _ _

end Cert.RouteClaims

end
-- ==== Proof.LnInValue.lean ====
module

public import proofs.«01_k».proof.Proof.Gen.LnInIdeal.Value
public import proofs.«01_k».proof.Proof.Rows
public import Idealize.ShloMosaic.Lib.Pipeline.ValueKit

@[expose] public section

/-! The two result arrays of the input layer norm, as functions of its argument arrays. -/

set_option maxRecDepth 16384

noncomputable section

open Idealize.ShloMosaic Idealize.ShloMosaic.TcCoe Idealize.SL.Sem Cert.Rows
open Idealize.ShloMosaic.Pipeline (Dat)

namespace Cert.LnInIdeal.Value

open Cert.LnInIdeal Cert.LnInIdeal.Gen

/-- The constant named ln_eps is 1/100000. -/
theorem lnEps : Named.named (F := Ideal) κ "ln_eps" (φ := .f32) 0x3727C5AC#32 = ((1 / 100000 : ℝ) : EReal) :=
  IdealRules.named_const.ideal_named_scalar _ _ _ _ rfl

/-- Row `r` of the float32 output block is the layer norm of row `r` of the input block. -/
theorem out3_at (x : Vec Ideal S512x1024 .f32) (g b : Vec Ideal S1x1024 .f32) (y : S512x1024.Idx) :
    out0_3 x g b y = layerNorm (fun k => x (ix2 (y 0) k)) (fun k => g (ix2 0 k)) (fun k => b (ix2 0 k)) (y 1) := by
  unfold out0_3
  frame_out
  pointwise [k0_pay1, lnEps, layerNorm, mean]

/-- The bfloat16 output block holds the same values. -/
theorem out4_at (x : Vec Ideal S512x1024 .f32) (g b : Vec Ideal S1x1024 .f32) (y : S512x1024.Idx) :
    out0_4 x g b y = out0_3 x g b y := by
  unfold out0_4 out0_3
  frame_out
  pointwise [k0_pay2]

variable (m : (ℓ : Loc nD τ sig) → Buf (Elt Ideal) ℓ)

/-- The layer norm over whole arrays: every row normed by itself. -/
def normed (x : FVec Ideal S65536x1024 .f32) (g b : FVec Ideal S1024 .f32) : S65536x1024.Idx → EReal := fun i =>
  layerNorm (fun k => x (ix2 (i 0) k)) (fun k => g (ix1 k)) (fun k => b (ix1 k)) (i 1)

/-- `normed` of the argument arrays of device `c`. -/
abbrev normedOf (c : Dev nD) : S65536x1024.Idx → EReal :=
  normed (m ((c : Thread nD τ).loc main_arg0)) (m ((c : Thread nD τ).loc main_arg1)) (m ((c : Thread nD τ).loc main_arg2))

/-- Where each window's block lies: point `t` takes rows `512 t` to `512 t + 511`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The float32 result is `normed` of the arguments. -/
theorem final3 (c : Dev nD) : (dats m 0 c).arrAt 3 (cfgs 0).N = normedOf m c := by
  refine (dats m 0 c).arrAt_eq_of_covers 3 _ (by decide +kernel) fun t _ y => ?_
  blk_simp
  rw [after0_3]
  refine (out3_at _ _ _ y).trans ?_
  simp only [normedOf, normed, layerNorm, mean]
  blk_point [iblk, V, idx t]

/-- The bfloat16 result is `normed` of the arguments. -/
theorem final4 (c : Dev nD) : (dats m 0 c).arrAt 4 (cfgs 0).N = normedOf m c := by
  refine (dats m 0 c).arrAt_eq_of_covers 4 _ (by decide +kernel) fun t _ y => ?_
  blk_simp
  rw [after0_4]
  refine ((out4_at _ _ _ y).trans (out3_at _ _ _ y)).trans ?_
  simp only [normedOf, normed, layerNorm, mean]
  blk_point [iblk, V, idx t]

end Cert.LnInIdeal.Value

end
-- ==== Proof.LnInRef.lean ====
module

public import proofs.«01_k».proof.Proof.Gen.LnInRefIdeal.Read
public import proofs.«01_k».proof.Proof.LnInValue
public import proofs.«01_k».proof.Proof.Consts

@[expose] public section

/-! The reference of the input layer norm computes the same function of its arguments. -/

set_option maxRecDepth 16384

noncomputable section

open Idealize.ShloMosaic Idealize.ShloMosaic.TcCoe Idealize.SL.Sem Cert.Rows

namespace Cert.LnInRefIdeal.Same

open Cert.LnInRefIdeal Cert.LnInRefIdeal.Gen

open Cert.LnInRefIdeal.Read

/-- The reference's float32 result is the layer norm of every row of its input. -/
theorem res0 (x0 : FVec Ideal S65536x1024 .f32) (x1 x2 : FVec Ideal S1024 .f32) :
    val_main_v24 (F := Ideal) x0 x1 x2 = Cert.LnInIdeal.Value.normed x0 x1 x2 := by
  funext i
  idx_vars i
  pointwise [val_main_cst, val_main_v0, val_main_v1, val_main_cst_0, val_main_v2, val_main_v3, val_main_v4,
    val_main_v5, val_main_v6, val_main_cst_1, val_main_v7, val_main_v8, val_main_cst_2, val_main_v9,
    val_main_v10, val_main_v11, val_main_v12, val_main_cst_3, val_main_cst_4, val_main_v13, val_main_v14,
    val_main_v15, val_main_v16, val_main_v17, val_main_v18, val_main_v19, val_main_v20, val_main_v21,
    val_main_v22, val_main_v23, val_main_v24, val_main_v25]
  simp only [Cert.Consts.epsilon]
  pointwise [Cert.LnInIdeal.Value.normed, layerNorm, mean]

/-- The reference's bfloat16 result is its float32 result: over the reals the cast is the identity. -/
theorem res1 (x0 : FVec Ideal S65536x1024 .f32) (x1 x2 : FVec Ideal S1024 .f32) :
    val_main_v25 (F := Ideal) x0 x1 x2 = Cert.LnInIdeal.Value.normed x0 x1 x2 := by
  rw [← res0]; rfl

end Cert.LnInRefIdeal.Same

end
-- ==== Proof.LnInClaims.lean ====
module

public import proofs.«01_k».proof.Defs
public import proofs.«01_k».proof.Proof.Gen.LnIn.Frame
public import proofs.«01_k».proof.Proof.LnInRef
public import Idealize.ShloMosaic.Lib.Claim
public import Idealize.ShloMosaic.Lib.Quiescent

@[expose] public section

/-! The claims about the input layer norm. -/

set_option maxRecDepth 16384

noncomputable section

open Idealize.ShloMosaic Idealize.ShloMosaic.TcCoe Idealize.SL.Sem

namespace Cert.LnInClaims

/-- The kernel runs to the end and leaves its arguments alone. -/
theorem frame : Cert.quiescent_LnIn := fun m ρ _ => Cert.LnIn.Gen.frame m ρ

/-- So does the kernel over the reals. -/
theorem frameIdeal : Cert.quiescent_LnInIdeal := fun m ρ _ => Cert.LnInIdeal.Gen.frame m ρ

/-- The reference runs to the end and leaves its arguments alone. -/
theorem frameRef : Cert.quiescent_LnInRefIdeal := fun m ρ _ =>
  (θ_run Cert.LnInRefIdeal.defs _ _).mono (fun r h => ⟨fun c => (h c).2.2, sem_eq_zero_of_no_sems (by decide) r.2⟩)
    (Cert.LnInRefIdeal.Value.run (F := Ideal) m ρ)

/-- The named constant: the word that 1/100000 stands for. -/
theorem preserves : Cert.preserves_LnIn_LnInIdeal :=
  IdealRules.named_const.statement _ _ _ _ _ rfl

/-- Over the reals both results of the kernel are those of the reference. -/
theorem algebraic : Cert.algebraic_LnInIdeal_LnInRefIdeal := by
  intro m g m' g' _ hagree
  refine ⟨Cert.LnInIdeal.Value.normedOf m, Cert.LnInIdeal.Value.normedOf m, ?_, ?_⟩
  · run_from Cert.LnInIdeal.Gen.run_main m g
    · exact Cert.LnInIdeal.Value.final3 m c
    · exact Cert.LnInIdeal.Value.final4 m c
  · refine (θ_run Cert.LnInRefIdeal.defs _ _).mono (fun r h c => ?_) (Cert.LnInRefIdeal.Value.run (F := Ideal) m' g')
    obtain ⟨e0, e1, e⟩ := h c
    obtain ⟨h0, h1, h2⟩ := hagree c
    refine ⟨(e0.trans (Cert.LnInRefIdeal.Read.val_main_v24_eq (F := Ideal) _ _ _)).trans
        ((Cert.LnInRefIdeal.Same.res0 _ _ _).trans ?_),
      (e1.trans (Cert.LnInRefIdeal.Read.val_main_v25_eq (F := Ideal) _ _ _)).trans
        ((Cert.LnInRefIdeal.Same.res1 _ _ _).trans ?_), e⟩ <;> rw [h0, h1, h2]

end Cert.LnInClaims

end
-- ==== Proof.lean ====
module

public import proofs.«01_k».proof.Defs
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Mixout
public import proofs.«01_k».proof.Proof.Gen.Mixout.Skeleton
public import proofs.«01_k».proof.Proof.Gen.Mixout.Launch
public import proofs.«01_k».proof.Proof.Gen.Mixout.Points
public import proofs.«01_k».proof.Proof.Gen.Mixout.Frame
public import proofs.«01_k».proof.Proof.Gen.MixoutIdeal
public import proofs.«01_k».proof.Proof.Gen.MixoutIdeal.Skeleton
public import proofs.«01_k».proof.Proof.Gen.MixoutIdeal.Launch
public import proofs.«01_k».proof.Proof.Gen.MixoutIdeal.Points
public import proofs.«01_k».proof.Proof.Gen.MixoutIdeal.Frame
public import proofs.«01_k».proof.Proof.Gen.MixoutIdeal.Value
public import proofs.«01_k».proof.Proof.Gen.MixoutRefIdeal
public import proofs.«01_k».proof.Proof.Gen.MixoutRefIdeal.Run
public import proofs.«01_k».proof.Proof.Gen.MixoutRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_used_experts
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.Gen.RouteRefIdeal
public import proofs.«01_k».proof.Proof.Gen.RouteRefIdeal.Run
public import proofs.«01_k».proof.Proof.Gen.RouteRefIdeal.Read
public import proofs.«01_k».proof.Proof.Gen.LnIn
public import proofs.«01_k».proof.Proof.Gen.LnIn.Skeleton
public import proofs.«01_k».proof.Proof.Gen.LnIn.Launch
public import proofs.«01_k».proof.Proof.Gen.LnIn.Points
public import proofs.«01_k».proof.Proof.Gen.LnIn.Frame
public import proofs.«01_k».proof.Proof.Gen.LnInIdeal
public import proofs.«01_k».proof.Proof.Gen.LnInIdeal.Skeleton
public import proofs.«01_k».proof.Proof.Gen.LnInIdeal.Launch
public import proofs.«01_k».proof.Proof.Gen.LnInIdeal.Points
public import proofs.«01_k».proof.Proof.Gen.LnInIdeal.Frame
public import proofs.«01_k».proof.Proof.Gen.LnInIdeal.Value
public import proofs.«01_k».proof.Proof.Gen.LnInRefIdeal
public import proofs.«01_k».proof.Proof.Gen.LnInRefIdeal.Run
public import proofs.«01_k».proof.Proof.Gen.LnInRefIdeal.Read
public import proofs.«01_k».proof.Proof.Gen.Pre_finite_rows
public import Idealize.ShloMosaic.Adequacy
public import Idealize.ShloMosaic.Init
public import proofs.«01_k».proof.Proof.InprojClaims
public import proofs.«01_k».proof.Proof.MixoutClaims
public import proofs.«01_k».proof.Proof.FfnClaims
public import proofs.«01_k».proof.Proof.ExpertsClaims
public import proofs.«01_k».proof.Proof.RouteClaims
public import proofs.«01_k».proof.Proof.LnInClaims

@[expose] public section

noncomputable section

namespace Cert.Proof

open Idealize.ShloMosaic Idealize.SL.Sem

/-- Every claim about the calls. -/
theorem claim : Cert.Claim := ⟨Cert.Inproj.Gen.facts,
  Cert.InprojIdeal.Gen.facts,
  Cert.InprojRefIdeal.Gen.facts,
  Cert.Mixout.Gen.facts,
  Cert.MixoutIdeal.Gen.facts,
  Cert.MixoutRefIdeal.Gen.facts,
  Cert.Ffn.Gen.facts,
  Cert.FfnIdeal.Gen.facts,
  Cert.FfnRefIdeal.Gen.facts,
  Cert.Experts.Gen.facts,
  Cert.ExpertsIdeal.Gen.facts,
  Cert.ExpertsRefIdeal.Gen.facts,
  Cert.Route.Gen.facts,
  Cert.RouteIdeal.Gen.facts,
  Cert.RouteRefIdeal.Gen.facts,
  Cert.LnIn.Gen.facts,
  Cert.LnInIdeal.Gen.facts,
  Cert.LnInRefIdeal.Gen.facts,
  Cert.Pre_used_experts.Gen.facts,
  Cert.Pre_finite_rows.Gen.facts,
  InprojClaims.frame,
  InprojClaims.frameIdeal,
  InprojClaims.frameRef,
  MixoutClaims.frame,
  MixoutClaims.frameIdeal,
  MixoutClaims.frameRef,
  FfnClaims.frame,
  FfnClaims.frameIdeal,
  FfnClaims.frameRef,
  ExpertsClaims.frame,
  ExpertsClaims.frameIdeal,
  ExpertsClaims.frameRef,
  RouteClaims.frame,
  RouteClaims.frameIdeal,
  RouteClaims.frameIdeal_pre,
  RouteClaims.frameRef,
  RouteClaims.frameRef_pre,
  LnInClaims.frame,
  LnInClaims.frameIdeal,
  LnInClaims.frameRef,
  InprojClaims.preserves,
  InprojClaims.algebraic,
  MixoutClaims.preserves,
  MixoutClaims.algebraic,
  FfnClaims.preserves,
  FfnClaims.algebraic,
  ExpertsClaims.preserves,
  ExpertsClaims.algebraic,
  RouteClaims.preserves,
  RouteClaims.algebraic,
  LnInClaims.preserves,
  LnInClaims.algebraic⟩

end Cert.Proof

end
